-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidRefIdeal (m : (ℓ : Loc Cert.MidRefIdeal.nD Cert.MidRefIdeal.τ Cert.MidRefIdeal.sig) → Buf (Elt Ideal) ℓ) : Prop :=
  True

def Pre_Inp (m : (ℓ : Loc Cert.Inp.nD Cert.Inp.τ Cert.Inp.sig) → Buf (Elt Bits) ℓ) : Prop :=
  True

def Pre_InpIdeal (m : (ℓ : Loc Cert.InpIdeal.nD Cert.InpIdeal.τ Cert.InpIdeal.sig) → Buf (Elt Ideal) ℓ) : Prop :=
  True

def Pre_InpRefIdeal (m : (ℓ : Loc Cert.InpRefIdeal.nD Cert.InpRefIdeal.τ Cert.InpRefIdeal.sig) → Buf (Elt Ideal) ℓ) : Prop :=
  True

def Pre_Projb (m : (ℓ : Loc Cert.Projb.nD Cert.Projb.τ Cert.Projb.sig) → Buf (Elt Bits) ℓ) : Prop :=
  True

def Pre_ProjbIdeal (m : (ℓ : Loc Cert.ProjbIdeal.nD Cert.ProjbIdeal.τ Cert.ProjbIdeal.sig) → Buf (Elt Ideal) ℓ) : Prop :=
  True

def Pre_ProjbRefIdeal (m : (ℓ : Loc Cert.ProjbRefIdeal.nD Cert.ProjbRefIdeal.τ Cert.ProjbRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5)
      ∧ r.2.mem ((c.tc : Thread Cert.Mid.nD Cert.Mid.τ).loc Cert.Mid.main_arg6) = m ((c.tc : Thread Cert.Mid.nD Cert.Mid.τ).loc Cert.Mid.main_arg6))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5)
      ∧ r.2.mem ((c.tc : Thread Cert.MidRefIdeal.nD Cert.MidRefIdeal.τ).loc Cert.MidRefIdeal.main_arg6) = m ((c.tc : Thread Cert.MidRefIdeal.nD Cert.MidRefIdeal.τ).loc Cert.MidRefIdeal.main_arg6))
      ∧ r.2.sem = fun _ => 0)

def quiescent_Inp [hInp : Cert.Inp.Facts] : Prop :=
  ∀ (m : (ℓ : Loc Cert.Inp.nD Cert.Inp.τ Cert.Inp.sig) → Buf (Elt Bits) ℓ) (g : Dev Cert.Inp.nD → PrngReg), Pre_Inp m →
    θ_run (Cert.Inp.defs (F := Bits)) (onTc (τ := Cert.Inp.τ) (Cert.Inp.main (F := Bits))) ⟨m, fun _ => 0, g⟩ (fun r => (∀ c : Dev Cert.Inp.nD,
      r.2.mem ((c.tc : Thread Cert.Inp.nD Cert.Inp.τ).loc Cert.Inp.main_arg0) = m ((c.tc : Thread Cert.Inp.nD Cert.Inp.τ).loc Cert.Inp.main_arg0)
      ∧ r.2.mem ((c.tc : Thread Cert.Inp.nD Cert.Inp.τ).loc Cert.Inp.main_arg1) = m ((c.tc : Thread Cert.Inp.nD Cert.Inp.τ).loc Cert.Inp.main_arg1)
      ∧ r.2.mem ((c.tc : Thread Cert.Inp.nD Cert.Inp.τ).loc Cert.Inp.main_arg2) = m ((c.tc : Thread Cert.Inp.nD Cert.Inp.τ).loc Cert.Inp.main_arg2)
      ∧ r.2.mem ((c.tc : Thread Cert.Inp.nD Cert.Inp.τ).loc Cert.Inp.main_arg3) = m ((c.tc : Thread Cert.Inp.nD Cert.Inp.τ).loc Cert.Inp.main_arg3)
      ∧ r.2.mem ((c.tc : Thread Cert.Inp.nD Cert.Inp.τ).loc Cert.Inp.main_arg4) = m ((c.tc : Thread Cert.Inp.nD Cert.Inp.τ).loc Cert.Inp.main_arg4))
      ∧ r.2.sem = fun _ => 0)

def quiescent_InpIdeal [hInpIdeal : Cert.InpIdeal.Facts] : Prop :=
  ∀ (m : (ℓ : Loc Cert.InpIdeal.nD Cert.InpIdeal.τ Cert.InpIdeal.sig) → Buf (Elt Ideal) ℓ) (g : Dev Cert.InpIdeal.nD → PrngReg), Pre_InpIdeal m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
      ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
      ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
      ∧ r.2.mem ((c.tc : Thread Cert.InpIdeal.nD Cert.InpIdeal.τ).loc Cert.InpIdeal.main_arg4) = m ((c.tc : Thread Cert.InpIdeal.nD Cert.InpIdeal.τ).loc Cert.InpIdeal.main_arg4))
      ∧ r.2.sem = fun _ => 0)

def quiescent_InpRefIdeal [hInpRefIdeal : Cert.InpRefIdeal.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1)
      ∧ r.2.mem ((c.tc : Thread Cert.InpRefIdeal.nD Cert.InpRefIdeal.τ).loc Cert.InpRefIdeal.main_arg2) = m ((c.tc : Thread Cert.InpRefIdeal.nD Cert.InpRefIdeal.τ).loc Cert.InpRefIdeal.main_arg2)
      ∧ r.2.mem ((c.tc : Thread Cert.InpRefIdeal.nD Cert.InpRefIdeal.τ).loc Cert.InpRefIdeal.main_arg3) = m ((c.tc : Thread Cert.InpRefIdeal.nD Cert.InpRefIdeal.τ).loc Cert.InpRefIdeal.main_arg3)
      ∧ r.2.mem ((c.tc : Thread Cert.InpRefIdeal.nD Cert.InpRefIdeal.τ).loc Cert.InpRefIdeal.main_arg4) = m ((c.tc : Thread Cert.InpRefIdeal.nD Cert.InpRefIdeal.τ).loc Cert.InpRefIdeal.main_arg4))
      ∧ r.2.sem = fun _ => 0)

def quiescent_Projb [hProjb : Cert.Projb.Facts] : Prop :=
  ∀ (m : (ℓ : Loc Cert.Projb.nD Cert.Projb.τ Cert.Projb.sig) → Buf (Elt Bits) ℓ) (g : Dev Cert.Projb.nD → PrngReg), Pre_Projb m →
    θ_run (Cert.Projb.defs (F := Bits)) (onTc (τ := Cert.Projb.τ) (Cert.Projb.main (F := Bits))) ⟨m, fun _ => 0, g⟩ (fun r => (∀ c : Dev Cert.Projb.nD,
      r.2.mem ((c.tc : Thread Cert.Projb.nD Cert.Projb.τ).loc Cert.Projb.main_arg0) = m ((c.tc : Thread Cert.Projb.nD Cert.Projb.τ).loc Cert.Projb.main_arg0)
      ∧ r.2.mem ((c.tc : Thread Cert.Projb.nD Cert.Projb.τ).loc Cert.Projb.main_arg1) = m ((c.tc : Thread Cert.Projb.nD Cert.Projb.τ).loc Cert.Projb.main_arg1)
      ∧ r.2.mem ((c.tc : Thread Cert.Projb.nD Cert.Projb.τ).loc Cert.Projb.main_arg2) = m ((c.tc : Thread Cert.Projb.nD Cert.Projb.τ).loc Cert.Projb.main_arg2)
      ∧ r.2.mem ((c.tc : Thread Cert.Projb.nD Cert.Projb.τ).loc Cert.Projb.main_arg3) = m ((c.tc : Thread Cert.Projb.nD Cert.Projb.τ).loc Cert.Projb.main_arg3)
      ∧ r.2.mem ((c.tc : Thread Cert.Projb.nD Cert.Projb.τ).loc Cert.Projb.main_arg4) = m ((c.tc : Thread Cert.Projb.nD Cert.Projb.τ).loc Cert.Projb.main_arg4))
      ∧ r.2.sem = fun _ => 0)

def quiescent_ProjbIdeal [hProjbIdeal : Cert.ProjbIdeal.Facts] : Prop :=
  ∀ (m : (ℓ : Loc Cert.ProjbIdeal.nD Cert.ProjbIdeal.τ Cert.ProjbIdeal.sig) → Buf (Elt Ideal) ℓ) (g : Dev Cert.ProjbIdeal.nD → PrngReg), Pre_ProjbIdeal m →
    θ_run (Cert.ProjbIdeal.defs (F := Ideal)) (onTc (τ := Cert.ProjbIdeal.τ) (Cert.ProjbIdeal.main (F := Ideal))) ⟨m, fun _ => 0, g⟩ (fun r => (∀ c : Dev Cert.ProjbIdeal.nD,
      r.2.mem ((c.tc : Thread Cert.ProjbIdeal.nD Cert.ProjbIdeal.τ).loc Cert.ProjbIdeal.main_arg0) = m ((c.tc : Thread Cert.ProjbIdeal.nD Cert.ProjbIdeal.τ).loc Cert.ProjbIdeal.main_arg0)
      ∧ r.2.mem ((c.tc : Thread Cert.ProjbIdeal.nD Cert.ProjbIdeal.τ).loc Cert.ProjbIdeal.main_arg1) = m ((c.tc : Thread Cert.ProjbIdeal.nD Cert.ProjbIdeal.τ).loc Cert.ProjbIdeal.main_arg1)
      ∧ r.2.mem ((c.tc : Thread Cert.ProjbIdeal.nD Cert.ProjbIdeal.τ).loc Cert.ProjbIdeal.main_arg2) = m ((c.tc : Thread Cert.ProjbIdeal.nD Cert.ProjbIdeal.τ).loc Cert.ProjbIdeal.main_arg2)
      ∧ r.2.mem ((c.tc : Thread Cert.ProjbIdeal.nD Cert.ProjbIdeal.τ).loc Cert.ProjbIdeal.main_arg3) = m ((c.tc : Thread Cert.ProjbIdeal.nD Cert.ProjbIdeal.τ).loc Cert.ProjbIdeal.main_arg3)
      ∧ r.2.mem ((c.tc : Thread Cert.ProjbIdeal.nD Cert.ProjbIdeal.τ).loc Cert.ProjbIdeal.main_arg4) = m ((c.tc : Thread Cert.ProjbIdeal.nD Cert.ProjbIdeal.τ).loc Cert.ProjbIdeal.main_arg4))
      ∧ r.2.sem = fun _ => 0)

def quiescent_ProjbRefIdeal [hProjbRefIdeal : Cert.ProjbRefIdeal.Facts] : Prop :=
  ∀ (m : (ℓ : Loc Cert.ProjbRefIdeal.nD Cert.ProjbRefIdeal.τ Cert.ProjbRefIdeal.sig) → Buf (Elt Ideal) ℓ) (g : Dev Cert.ProjbRefIdeal.nD → PrngReg), Pre_ProjbRefIdeal m →
    θ_run (Cert.ProjbRefIdeal.defs (F := Ideal)) (onTc (τ := Cert.ProjbRefIdeal.τ) (Cert.ProjbRefIdeal.main (F := Ideal))) ⟨m, fun _ => 0, g⟩ (fun r => (∀ c : Dev Cert.ProjbRefIdeal.nD,
      r.2.mem ((c.tc : Thread Cert.ProjbRefIdeal.nD Cert.ProjbRefIdeal.τ).loc Cert.ProjbRefIdeal.main_arg0) = m ((c.tc : Thread Cert.ProjbRefIdeal.nD Cert.ProjbRefIdeal.τ).loc Cert.ProjbRefIdeal.main_arg0)
      ∧ r.2.mem ((c.tc : Thread Cert.ProjbRefIdeal.nD Cert.ProjbRefIdeal.τ).loc Cert.ProjbRefIdeal.main_arg1) = m ((c.tc : Thread Cert.ProjbRefIdeal.nD Cert.ProjbRefIdeal.τ).loc Cert.ProjbRefIdeal.main_arg1)
      ∧ r.2.mem ((c.tc : Thread Cert.ProjbRefIdeal.nD Cert.ProjbRefIdeal.τ).loc Cert.ProjbRefIdeal.main_arg2) = m ((c.tc : Thread Cert.ProjbRefIdeal.nD Cert.ProjbRefIdeal.τ).loc Cert.ProjbRefIdeal.main_arg2)
      ∧ r.2.mem ((c.tc : Thread Cert.ProjbRefIdeal.nD Cert.ProjbRefIdeal.τ).loc Cert.ProjbRefIdeal.main_arg3) = m ((c.tc : Thread Cert.ProjbRefIdeal.nD Cert.ProjbRefIdeal.τ).loc Cert.ProjbRefIdeal.main_arg3)
      ∧ r.2.mem ((c.tc : Thread Cert.ProjbRefIdeal.nD Cert.ProjbRefIdeal.τ).loc Cert.ProjbRefIdeal.main_arg4) = m ((c.tc : Thread Cert.ProjbRefIdeal.nD Cert.ProjbRefIdeal.τ).loc Cert.ProjbRefIdeal.main_arg4))
      ∧ r.2.sem = fun _ => 0)

def preserves_Attn_AttnIdeal : Prop :=
  IdealRules.named_const.Statement Cert.AttnIdeal.κ "scale_log2e" .f32 0x3E0293EE#32 (((Real.log 2)⁻¹ * (Real.sqrt 128)⁻¹ : ℝ) : EReal)

def algebraic_AttnIdeal_AttnRefIdeal [hAttnIdeal : Cert.AttnIdeal.Facts] [hAttnRefIdeal : Cert.AttnRefIdeal.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)) →
    ∃ (v0 : (c : Dev Cert.AttnIdeal.nD) → Buf (Elt Ideal) ((c.tc : Thread Cert.AttnIdeal.nD Cert.AttnIdeal.τ).loc Cert.AttnIdeal.main_v3)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v3) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v46) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v60) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Mid_MidIdeal : Prop :=
  True

def algebraic_MidIdeal_MidRefIdeal [hMidIdeal : Cert.MidIdeal.Facts] [hMidRefIdeal : Cert.MidRefIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)
      ∧ m' ((c.tc : Thread Cert.MidRefIdeal.nD Cert.MidRefIdeal.τ).loc Cert.MidRefIdeal.main_arg3) = m ((c.tc : Thread Cert.MidIdeal.nD Cert.MidIdeal.τ).loc Cert.MidIdeal.main_arg3)
      ∧ m' ((c.tc : Thread Cert.MidRefIdeal.nD Cert.MidRefIdeal.τ).loc Cert.MidRefIdeal.main_arg4) = m ((c.tc : Thread Cert.MidIdeal.nD Cert.MidIdeal.τ).loc Cert.MidIdeal.main_arg4)
      ∧ m' ((c.tc : Thread Cert.MidRefIdeal.nD Cert.MidRefIdeal.τ).loc Cert.MidRefIdeal.main_arg5) = m ((c.tc : Thread Cert.MidIdeal.nD Cert.MidIdeal.τ).loc Cert.MidIdeal.main_arg5)
      ∧ m' ((c.tc : Thread Cert.MidRefIdeal.nD Cert.MidRefIdeal.τ).loc Cert.MidRefIdeal.main_arg6) = m ((c.tc : Thread Cert.MidIdeal.nD Cert.MidIdeal.τ).loc Cert.MidIdeal.main_arg6)) →
    ∃ (v0 : (c : Dev Cert.MidIdeal.nD) → Buf (Elt Ideal) ((c.tc : Thread Cert.MidIdeal.nD Cert.MidIdeal.τ).loc Cert.MidIdeal.main_v5)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v5) = v0 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
          ∧ r.2.mem ((c.tc : Thread Cert.MidIdeal.nD Cert.MidIdeal.τ).loc Cert.MidIdeal.main_arg6) = m ((c.tc : Thread Cert.MidIdeal.nD Cert.MidIdeal.τ).loc Cert.MidIdeal.main_arg6))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v47) = v0 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3)
          ∧ r.2.mem ((c.tc : Thread Cert.MidRefIdeal.nD Cert.MidRefIdeal.τ).loc Cert.MidRefIdeal.main_arg4) = m' ((c.tc : Thread Cert.MidRefIdeal.nD Cert.MidRefIdeal.τ).loc Cert.MidRefIdeal.main_arg4)
          ∧ r.2.mem ((c.tc : Thread Cert.MidRefIdeal.nD Cert.MidRefIdeal.τ).loc Cert.MidRefIdeal.main_arg5) = m' ((c.tc : Thread Cert.MidRefIdeal.nD Cert.MidRefIdeal.τ).loc Cert.MidRefIdeal.main_arg5)
          ∧ r.2.mem ((c.tc : Thread Cert.MidRefIdeal.nD Cert.MidRefIdeal.τ).loc Cert.MidRefIdeal.main_arg6) = m' ((c.tc : Thread Cert.MidRefIdeal.nD Cert.MidRefIdeal.τ).loc Cert.MidRefIdeal.main_arg6))

def preserves_Inp_InpIdeal : Prop :=
  True

def algebraic_InpIdeal_InpRefIdeal [hInpIdeal : Cert.InpIdeal.Facts] [hInpRefIdeal : Cert.InpRefIdeal.Facts] : Prop :=
  ∀ (m : (ℓ : Loc Cert.InpIdeal.nD Cert.InpIdeal.τ Cert.InpIdeal.sig) → Buf (Elt Ideal) ℓ) (g : Dev Cert.InpIdeal.nD → PrngReg)
    (m' : (ℓ : Loc Cert.InpRefIdeal.nD Cert.InpRefIdeal.τ Cert.InpRefIdeal.sig) → Buf (Elt Ideal) ℓ) (g' : Dev Cert.InpRefIdeal.nD → PrngReg), Pre_InpIdeal m →
    (∀ c : Dev Cert.InpIdeal.nD,
      m' ((c.tc : Thread Cert.InpRefIdeal.nD Cert.InpRefIdeal.τ).loc Cert.InpRefIdeal.main_arg0) = m ((c.tc : Thread Cert.InpIdeal.nD Cert.InpIdeal.τ).loc Cert.InpIdeal.main_arg0)
      ∧ m' ((c.tc : Thread Cert.InpRefIdeal.nD Cert.InpRefIdeal.τ).loc Cert.InpRefIdeal.main_arg1) = m ((c.tc : Thread Cert.InpIdeal.nD Cert.InpIdeal.τ).loc Cert.InpIdeal.main_arg1)
      ∧ m' ((c.tc : Thread Cert.InpRefIdeal.nD Cert.InpRefIdeal.τ).loc Cert.InpRefIdeal.main_arg2) = m ((c.tc : Thread Cert.InpIdeal.nD Cert.InpIdeal.τ).loc Cert.InpIdeal.main_arg2)
      ∧ m' ((c.tc : Thread Cert.InpRefIdeal.nD Cert.InpRefIdeal.τ).loc Cert.InpRefIdeal.main_arg3) = m ((c.tc : Thread Cert.InpIdeal.nD Cert.InpIdeal.τ).loc Cert.InpIdeal.main_arg3)
      ∧ m' ((c.tc : Thread Cert.InpRefIdeal.nD Cert.InpRefIdeal.τ).loc Cert.InpRefIdeal.main_arg4) = m ((c.tc : Thread Cert.InpIdeal.nD Cert.InpIdeal.τ).loc Cert.InpIdeal.main_arg4)) →
    ∃ (v0 : (c : Dev Cert.InpIdeal.nD) → Buf (Elt Ideal) ((c.tc : Thread Cert.InpIdeal.nD Cert.InpIdeal.τ).loc Cert.InpIdeal.main_v10_0)) (v1 : (c : Dev Cert.InpIdeal.nD) → Buf (Elt Ideal) ((c.tc : Thread Cert.InpIdeal.nD Cert.InpIdeal.τ).loc Cert.InpIdeal.main_v10_1)) (v2 : (c : Dev Cert.InpIdeal.nD) → Buf (Elt Ideal) ((c.tc : Thread Cert.InpIdeal.nD Cert.InpIdeal.τ).loc Cert.InpIdeal.main_v10_2)) (v3 : (c : Dev Cert.InpIdeal.nD) → Buf (Elt Ideal) ((c.tc : Thread Cert.InpIdeal.nD Cert.InpIdeal.τ).loc Cert.InpIdeal.main_v10_3)) (v4 : (c : Dev Cert.InpIdeal.nD) → Buf (Elt Ideal) ((c.tc : Thread Cert.InpIdeal.nD Cert.InpIdeal.τ).loc Cert.InpIdeal.main_v10_4)) (v5 : (c : Dev Cert.InpIdeal.nD) → Buf (Elt Ideal) ((c.tc : Thread Cert.InpIdeal.nD Cert.InpIdeal.τ).loc Cert.InpIdeal.main_v10_5)),
      θ_run (Cert.InpIdeal.defs (F := Ideal)) (onTc (τ := Cert.InpIdeal.τ) (Cert.InpIdeal.main (F := Ideal))) ⟨m, fun _ => 0, g⟩ (fun r => ∀ c : Dev Cert.InpIdeal.nD,
          r.2.mem ((c.tc : Thread Cert.InpIdeal.nD Cert.InpIdeal.τ).loc Cert.InpIdeal.main_v10_0) = v0 c
          ∧ r.2.mem ((c.tc : Thread Cert.InpIdeal.nD Cert.InpIdeal.τ).loc Cert.InpIdeal.main_v10_1) = v1 c
          ∧ r.2.mem ((c.tc : Thread Cert.InpIdeal.nD Cert.InpIdeal.τ).loc Cert.InpIdeal.main_v10_2) = v2 c
          ∧ r.2.mem ((c.tc : Thread Cert.InpIdeal.nD Cert.InpIdeal.τ).loc Cert.InpIdeal.main_v10_3) = v3 c
          ∧ r.2.mem ((c.tc : Thread Cert.InpIdeal.nD Cert.InpIdeal.τ).loc Cert.InpIdeal.main_v10_4) = v4 c
          ∧ r.2.mem ((c.tc : Thread Cert.InpIdeal.nD Cert.InpIdeal.τ).loc Cert.InpIdeal.main_v10_5) = v5 c
          ∧ r.2.mem ((c.tc : Thread Cert.InpIdeal.nD Cert.InpIdeal.τ).loc Cert.InpIdeal.main_arg0) = m ((c.tc : Thread Cert.InpIdeal.nD Cert.InpIdeal.τ).loc Cert.InpIdeal.main_arg0)
          ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
          ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
          ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
          ∧ r.2.mem ((c.tc : Thread Cert.InpIdeal.nD Cert.InpIdeal.τ).loc Cert.InpIdeal.main_arg4) = m ((c.tc : Thread Cert.InpIdeal.nD Cert.InpIdeal.τ).loc Cert.InpIdeal.main_arg4))
      ∧ θ_run (Cert.InpRefIdeal.defs (F := Ideal)) (onTc (τ := Cert.InpRefIdeal.τ) (Cert.InpRefIdeal.main (F := Ideal))) ⟨m', fun _ => 0, g'⟩ (fun r => ∀ c : Dev Cert.InpRefIdeal.nD,
          r.2.mem ((c.tc : Thread Cert.InpRefIdeal.nD Cert.InpRefIdeal.τ).loc Cert.InpRefIdeal.main_v21) = v0 c
          ∧ r.2.mem ((c.tc : Thread Cert.InpRefIdeal.nD Cert.InpRefIdeal.τ).loc Cert.InpRefIdeal.main_v15) = v1 c
          ∧ r.2.mem ((c.tc : Thread Cert.InpRefIdeal.nD Cert.InpRefIdeal.τ).loc Cert.InpRefIdeal.main_v28) = v2 c
          ∧ r.2.mem ((c.tc : Thread Cert.InpRefIdeal.nD Cert.InpRefIdeal.τ).loc Cert.InpRefIdeal.main_v29) = v3 c
          ∧ r.2.mem ((c.tc : Thread Cert.InpRefIdeal.nD Cert.InpRefIdeal.τ).loc Cert.InpRefIdeal.main_v17) = v4 c
          ∧ r.2.mem ((c.tc : Thread Cert.InpRefIdeal.nD Cert.InpRefIdeal.τ).loc Cert.InpRefIdeal.main_v30) = v5 c
          ∧ r.2.mem ((c.tc : Thread Cert.InpRefIdeal.nD Cert.InpRefIdeal.τ).loc Cert.InpRefIdeal.main_arg0) = m' ((c.tc : Thread Cert.InpRefIdeal.nD Cert.InpRefIdeal.τ).loc Cert.InpRefIdeal.main_arg0)
          ∧ r.2.mem ((c.tc : Thread Cert.InpRefIdeal.nD Cert.InpRefIdeal.τ).loc Cert.InpRefIdeal.main_arg1) = m' ((c.tc : Thread Cert.InpRefIdeal.nD Cert.InpRefIdeal.τ).loc Cert.InpRefIdeal.main_arg1)
          ∧ r.2.mem ((c.tc : Thread Cert.InpRefIdeal.nD Cert.InpRefIdeal.τ).loc Cert.InpRefIdeal.main_arg2) = m' ((c.tc : Thread Cert.InpRefIdeal.nD Cert.InpRefIdeal.τ).loc Cert.InpRefIdeal.main_arg2)
          ∧ r.2.mem ((c.tc : Thread Cert.InpRefIdeal.nD Cert.InpRefIdeal.τ).loc Cert.InpRefIdeal.main_arg3) = m' ((c.tc : Thread Cert.InpRefIdeal.nD Cert.InpRefIdeal.τ).loc Cert.InpRefIdeal.main_arg3)
          ∧ r.2.mem ((c.tc : Thread Cert.InpRefIdeal.nD Cert.InpRefIdeal.τ).loc Cert.InpRefIdeal.main_arg4) = m' ((c.tc : Thread Cert.InpRefIdeal.nD Cert.InpRefIdeal.τ).loc Cert.InpRefIdeal.main_arg4))

def preserves_Projb_ProjbIdeal : Prop :=
  IdealRules.named_const.Statement Cert.ProjbIdeal.κ "q_scale_log2e" .f32 0x3E38AA3B#32 (((Real.log 2)⁻¹ * (Real.sqrt 64)⁻¹ : ℝ) : EReal)

def algebraic_ProjbIdeal_ProjbRefIdeal [hProjbIdeal : Cert.ProjbIdeal.Facts] [hProjbRefIdeal : Cert.ProjbRefIdeal.Facts] : Prop :=
  ∀ (m : (ℓ : Loc Cert.ProjbIdeal.nD Cert.ProjbIdeal.τ Cert.ProjbIdeal.sig) → Buf (Elt Ideal) ℓ) (g : Dev Cert.ProjbIdeal.nD → PrngReg)
    (m' : (ℓ : Loc Cert.ProjbRefIdeal.nD Cert.ProjbRefIdeal.τ Cert.ProjbRefIdeal.sig) → Buf (Elt Ideal) ℓ) (g' : Dev Cert.ProjbRefIdeal.nD → PrngReg), Pre_ProjbIdeal m →
    (∀ c : Dev Cert.ProjbIdeal.nD,
      m' ((c.tc : Thread Cert.ProjbRefIdeal.nD Cert.ProjbRefIdeal.τ).loc Cert.ProjbRefIdeal.main_arg0) = m ((c.tc : Thread Cert.ProjbIdeal.nD Cert.ProjbIdeal.τ).loc Cert.ProjbIdeal.main_arg0)
      ∧ m' ((c.tc : Thread Cert.ProjbRefIdeal.nD Cert.ProjbRefIdeal.τ).loc Cert.ProjbRefIdeal.main_arg1) = m ((c.tc : Thread Cert.ProjbIdeal.nD Cert.ProjbIdeal.τ).loc Cert.ProjbIdeal.main_arg1)
      ∧ m' ((c.tc : Thread Cert.ProjbRefIdeal.nD Cert.ProjbRefIdeal.τ).loc Cert.ProjbRefIdeal.main_arg2) = m ((c.tc : Thread Cert.ProjbIdeal.nD Cert.ProjbIdeal.τ).loc Cert.ProjbIdeal.main_arg2)
      ∧ m' ((c.tc : Thread Cert.ProjbRefIdeal.nD Cert.ProjbRefIdeal.τ).loc Cert.ProjbRefIdeal.main_arg3) = m ((c.tc : Thread Cert.ProjbIdeal.nD Cert.ProjbIdeal.τ).loc Cert.ProjbIdeal.main_arg3)
      ∧ m' ((c.tc : Thread Cert.ProjbRefIdeal.nD Cert.ProjbRefIdeal.τ).loc Cert.ProjbRefIdeal.main_arg4) = m ((c.tc : Thread Cert.ProjbIdeal.nD Cert.ProjbIdeal.τ).loc Cert.ProjbIdeal.main_arg4)) →
    ∃ (v0 : (c : Dev Cert.ProjbIdeal.nD) → Buf (Elt Ideal) ((c.tc : Thread Cert.ProjbIdeal.nD Cert.ProjbIdeal.τ).loc Cert.ProjbIdeal.main_v12_0)) (v1 : (c : Dev Cert.ProjbIdeal.nD) → Buf (Elt Ideal) ((c.tc : Thread Cert.ProjbIdeal.nD Cert.ProjbIdeal.τ).loc Cert.ProjbIdeal.main_v12_1)) (v2 : (c : Dev Cert.ProjbIdeal.nD) → Buf (Elt Ideal) ((c.tc : Thread Cert.ProjbIdeal.nD Cert.ProjbIdeal.τ).loc Cert.ProjbIdeal.main_v12_2)) (v3 : (c : Dev Cert.ProjbIdeal.nD) → Buf (Elt Ideal) ((c.tc : Thread Cert.ProjbIdeal.nD Cert.ProjbIdeal.τ).loc Cert.ProjbIdeal.main_v12_3)) (v4 : (c : Dev Cert.ProjbIdeal.nD) → Buf (Elt Ideal) ((c.tc : Thread Cert.ProjbIdeal.nD Cert.ProjbIdeal.τ).loc Cert.ProjbIdeal.main_v12_4)),
      θ_run (Cert.ProjbIdeal.defs (F := Ideal)) (onTc (τ := Cert.ProjbIdeal.τ) (Cert.ProjbIdeal.main (F := Ideal))) ⟨m, fun _ => 0, g⟩ (fun r => ∀ c : Dev Cert.ProjbIdeal.nD,
          r.2.mem ((c.tc : Thread Cert.ProjbIdeal.nD Cert.ProjbIdeal.τ).loc Cert.ProjbIdeal.main_v12_0) = v0 c
          ∧ r.2.mem ((c.tc : Thread Cert.ProjbIdeal.nD Cert.ProjbIdeal.τ).loc Cert.ProjbIdeal.main_v12_1) = v1 c
          ∧ r.2.mem ((c.tc : Thread Cert.ProjbIdeal.nD Cert.ProjbIdeal.τ).loc Cert.ProjbIdeal.main_v12_2) = v2 c
          ∧ r.2.mem ((c.tc : Thread Cert.ProjbIdeal.nD Cert.ProjbIdeal.τ).loc Cert.ProjbIdeal.main_v12_3) = v3 c
          ∧ r.2.mem ((c.tc : Thread Cert.ProjbIdeal.nD Cert.ProjbIdeal.τ).loc Cert.ProjbIdeal.main_v12_4) = v4 c
          ∧ r.2.mem ((c.tc : Thread Cert.ProjbIdeal.nD Cert.ProjbIdeal.τ).loc Cert.ProjbIdeal.main_arg0) = m ((c.tc : Thread Cert.ProjbIdeal.nD Cert.ProjbIdeal.τ).loc Cert.ProjbIdeal.main_arg0)
          ∧ r.2.mem ((c.tc : Thread Cert.ProjbIdeal.nD Cert.ProjbIdeal.τ).loc Cert.ProjbIdeal.main_arg1) = m ((c.tc : Thread Cert.ProjbIdeal.nD Cert.ProjbIdeal.τ).loc Cert.ProjbIdeal.main_arg1)
          ∧ r.2.mem ((c.tc : Thread Cert.ProjbIdeal.nD Cert.ProjbIdeal.τ).loc Cert.ProjbIdeal.main_arg2) = m ((c.tc : Thread Cert.ProjbIdeal.nD Cert.ProjbIdeal.τ).loc Cert.ProjbIdeal.main_arg2)
          ∧ r.2.mem ((c.tc : Thread Cert.ProjbIdeal.nD Cert.ProjbIdeal.τ).loc Cert.ProjbIdeal.main_arg3) = m ((c.tc : Thread Cert.ProjbIdeal.nD Cert.ProjbIdeal.τ).loc Cert.ProjbIdeal.main_arg3)
          ∧ r.2.mem ((c.tc : Thread Cert.ProjbIdeal.nD Cert.ProjbIdeal.τ).loc Cert.ProjbIdeal.main_arg4) = m ((c.tc : Thread Cert.ProjbIdeal.nD Cert.ProjbIdeal.τ).loc Cert.ProjbIdeal.main_arg4))
      ∧ θ_run (Cert.ProjbRefIdeal.defs (F := Ideal)) (onTc (τ := Cert.ProjbRefIdeal.τ) (Cert.ProjbRefIdeal.main (F := Ideal))) ⟨m', fun _ => 0, g'⟩ (fun r => ∀ c : Dev Cert.ProjbRefIdeal.nD,
          r.2.mem ((c.tc : Thread Cert.ProjbRefIdeal.nD Cert.ProjbRefIdeal.τ).loc Cert.ProjbRefIdeal.main_v48) = v0 c
          ∧ r.2.mem ((c.tc : Thread Cert.ProjbRefIdeal.nD Cert.ProjbRefIdeal.τ).loc Cert.ProjbRefIdeal.main_v50) = v1 c
          ∧ r.2.mem ((c.tc : Thread Cert.ProjbRefIdeal.nD Cert.ProjbRefIdeal.τ).loc Cert.ProjbRefIdeal.main_v53) = v2 c
          ∧ r.2.mem ((c.tc : Thread Cert.ProjbRefIdeal.nD Cert.ProjbRefIdeal.τ).loc Cert.ProjbRefIdeal.main_v55) = v3 c
          ∧ r.2.mem ((c.tc : Thread Cert.ProjbRefIdeal.nD Cert.ProjbRefIdeal.τ).loc Cert.ProjbRefIdeal.main_v56) = v4 c
          ∧ r.2.mem ((c.tc : Thread Cert.ProjbRefIdeal.nD Cert.ProjbRefIdeal.τ).loc Cert.ProjbRefIdeal.main_arg0) = m' ((c.tc : Thread Cert.ProjbRefIdeal.nD Cert.ProjbRefIdeal.τ).loc Cert.ProjbRefIdeal.main_arg0)
          ∧ r.2.mem ((c.tc : Thread Cert.ProjbRefIdeal.nD Cert.ProjbRefIdeal.τ).loc Cert.ProjbRefIdeal.main_arg1) = m' ((c.tc : Thread Cert.ProjbRefIdeal.nD Cert.ProjbRefIdeal.τ).loc Cert.ProjbRefIdeal.main_arg1)
          ∧ r.2.mem ((c.tc : Thread Cert.ProjbRefIdeal.nD Cert.ProjbRefIdeal.τ).loc Cert.ProjbRefIdeal.main_arg2) = m' ((c.tc : Thread Cert.ProjbRefIdeal.nD Cert.ProjbRefIdeal.τ).loc Cert.ProjbRefIdeal.main_arg2)
          ∧ r.2.mem ((c.tc : Thread Cert.ProjbRefIdeal.nD Cert.ProjbRefIdeal.τ).loc Cert.ProjbRefIdeal.main_arg3) = m' ((c.tc : Thread Cert.ProjbRefIdeal.nD Cert.ProjbRefIdeal.τ).loc Cert.ProjbRefIdeal.main_arg3)
          ∧ r.2.mem ((c.tc : Thread Cert.ProjbRefIdeal.nD Cert.ProjbRefIdeal.τ).loc Cert.ProjbRefIdeal.main_arg4) = m' ((c.tc : Thread Cert.ProjbRefIdeal.nD Cert.ProjbRefIdeal.τ).loc Cert.ProjbRefIdeal.main_arg4))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hMid : Cert.Mid.Facts) (hMidIdeal : Cert.MidIdeal.Facts) (hMidRefIdeal : Cert.MidRefIdeal.Facts) (hInp : Cert.Inp.Facts) (hInpIdeal : Cert.InpIdeal.Facts) (hInpRefIdeal : Cert.InpRefIdeal.Facts) (hProjb : Cert.Projb.Facts) (hProjbIdeal : Cert.ProjbIdeal.Facts) (hProjbRefIdeal : Cert.ProjbRefIdeal.Facts),
    quiescent_Attn (hAttn := hAttn)
    ∧ quiescent_AttnIdeal (hAttnIdeal := hAttnIdeal)
    ∧ quiescent_AttnRefIdeal (hAttnRefIdeal := hAttnRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Mid (hMid := hMid)
    ∧ quiescent_MidIdeal (hMidIdeal := hMidIdeal)
    ∧ quiescent_MidRefIdeal (hMidRefIdeal := hMidRefIdeal)
    ∧ quiescent_Inp (hInp := hInp)
    ∧ quiescent_InpIdeal (hInpIdeal := hInpIdeal)
    ∧ quiescent_InpRefIdeal (hInpRefIdeal := hInpRefIdeal)
    ∧ quiescent_Projb (hProjb := hProjb)
    ∧ quiescent_ProjbIdeal (hProjbIdeal := hProjbIdeal)
    ∧ quiescent_ProjbRefIdeal (hProjbRefIdeal := hProjbRefIdeal)
    ∧ preserves_Attn_AttnIdeal
    ∧ algebraic_AttnIdeal_AttnRefIdeal (hAttnIdeal := hAttnIdeal) (hAttnRefIdeal := hAttnRefIdeal)
    ∧ preserves_Ffn_FfnIdeal
    ∧ algebraic_FfnIdeal_FfnRefIdeal (hFfnIdeal := hFfnIdeal) (hFfnRefIdeal := hFfnRefIdeal)
    ∧ preserves_Mid_MidIdeal
    ∧ algebraic_MidIdeal_MidRefIdeal (hMidIdeal := hMidIdeal) (hMidRefIdeal := hMidRefIdeal)
    ∧ preserves_Inp_InpIdeal
    ∧ algebraic_InpIdeal_InpRefIdeal (hInpIdeal := hInpIdeal) (hInpRefIdeal := hInpRefIdeal)
    ∧ preserves_Projb_ProjbIdeal
    ∧ algebraic_ProjbIdeal_ProjbRefIdeal (hProjbIdeal := hProjbIdeal) (hProjbRefIdeal := hProjbRefIdeal)
-- ==== Attn.lean ====
abbrev S32768x512 : Shape := ⟨2, ![32768, 512]⟩
abbrev S4x256x1024 : Shape := ⟨3, ![4, 256, 1024]⟩
abbrev S1024 : Shape := ⟨1, ![1024]⟩
abbrev S1024x1024 : Shape := ⟨2, ![1024, 1024]⟩
abbrev S32768x1024 : Shape := ⟨2, ![32768, 1024]⟩
abbrev S1x1024 : Shape := ⟨2, ![1, 1024]⟩
abbrev S1024x512 : Shape := ⟨2, ![1024, 512]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1024x128 : Shape := ⟨2, ![1024, 128]⟩
abbrev S256x128 : Shape := ⟨2, ![256, 128]⟩
abbrev S1024x256 : Shape := ⟨2, ![1024, 256]⟩
abbrev S1024x1 : Shape := ⟨2, ![1024, 1]⟩

abbrev nBuf : Space → Nat
  | .hbm => 11
  | .vmem => 14
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S4x256x1024, .f32⟩
  | .hbm, ⟨3, _⟩ => ⟨S1024, .f32⟩
  | .hbm, ⟨4, _⟩ => ⟨S1024x1024, .f32⟩
  | .hbm, ⟨5, _⟩ => ⟨S1024x1024, .f32⟩
  | .hbm, ⟨6, _⟩ => ⟨S32768x1024, .f32⟩
  | .hbm, ⟨7, _⟩ => ⟨S1x1024, .f32⟩
  | .hbm, ⟨8, _⟩ => ⟨S1024x1024, .bf16⟩
  | .hbm, ⟨9, _⟩ => ⟨S1024x1024, .bf16⟩
  | .hbm, ⟨10, _⟩ => ⟨S32768x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1x256x1024, .f32⟩
  | .local _ .vmem, ⟨5, _⟩ => ⟨S1x256x1024, .f32⟩
  | .local _ .vmem, ⟨6, _⟩ => ⟨S1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S256x1024, .bf16⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AttnIdeal.lean ====
variable {F : FTy → Type} [FloatOps F] [Named F]
def κ : String → Option EReal := fun
  | "scale_log2e" => some (((Real.log 2)⁻¹ * (Real.sqrt 128)⁻¹ : ℝ) : EReal)
  | _ => none
-- ==== AttnRefIdeal.lean ====
abbrev S32768x512 : Shape := ⟨2, ![32768, 512]⟩
abbrev S4x256x1024 : Shape := ⟨3, ![4, 256, 1024]⟩
abbrev S1024 : Shape := ⟨1, ![1024]⟩
abbrev S1024x1024 : Shape := ⟨2, ![1024, 1024]⟩
abbrev S32768x1024 : Shape := ⟨2, ![32768, 1024]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S4x256x2x4x128 : Shape := ⟨5, ![4, 256, 2, 4, 128]⟩
abbrev S4x256x1x4x128 : Shape := ⟨5, ![4, 256, 1, 4, 128]⟩
abbrev S4x256x4x128 : Shape := ⟨4, ![4, 256, 4, 128]⟩
abbrev S4x8192x512 : Shape := ⟨3, ![4, 8192, 512]⟩
abbrev S4x8192x4x128 : Shape := ⟨4, ![4, 8192, 4, 128]⟩
abbrev S4x4x8192x256 : Shape := ⟨4, ![4, 4, 8192, 256]⟩
abbrev S4x4x8192 : Shape := ⟨3, ![4, 4, 8192]⟩
abbrev S4x4x8192x1 : Shape := ⟨4, ![4, 4, 8192, 1]⟩
abbrev S4x4x128x8192 : Shape := ⟨4, ![4, 4, 128, 8192]⟩
abbrev S4x8192x1024 : Shape := ⟨3, ![4, 8192, 1024]⟩

abbrev nBuf : Space → Nat
  | .hbm => 61
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S4x256x1024, .f32⟩
  | .hbm, ⟨3, _⟩ => ⟨S1024, .f32⟩
  | .hbm, ⟨4, _⟩ => ⟨S1024x1024, .f32⟩
  | .hbm, ⟨5, _⟩ => ⟨S1024x1024, .f32⟩
  | .hbm, ⟨6, _⟩ => ⟨S32768x1024, .f32⟩
  | .hbm, ⟨7, _⟩ => ⟨S4x256x1024, .f32⟩
  | .hbm, ⟨8, _⟩ => ⟨S_, .f32⟩
  | .hbm, ⟨9, _⟩ => ⟨S4x256, .f32⟩
  | .hbm, ⟨10, _⟩ => ⟨S4x256x1, .f32⟩
  | .hbm, ⟨11, _⟩ => ⟨S_, .f32⟩
  | .hbm, ⟨12, _⟩ => ⟨S4x256x1, .f32⟩
  | .hbm, ⟨13, _⟩ => ⟨S4x256x1, .f32⟩
  | .hbm, ⟨14, _⟩ => ⟨S_, .f32⟩
  | .hbm, ⟨15, _⟩ => ⟨S4x256x1, .f32⟩
  | .hbm, ⟨16, _⟩ => ⟨S4x256x1, .f32⟩
  | .hbm, ⟨17, _⟩ => ⟨S4x256x1, .f32⟩
  | .hbm, ⟨18, _⟩ => ⟨S4x256x1024, .f32⟩
  | .hbm, ⟨19, _⟩ => ⟨S4x256x1024, .f32⟩
  | .hbm, ⟨20, _⟩ => ⟨S1x1x1024, .f32⟩
  | .hbm, ⟨21, _⟩ => ⟨S4x256x1024, .f32⟩
  | .hbm, ⟨22, _⟩ => ⟨S4x256x1024, .f32⟩
  | .hbm, ⟨23, _⟩ => ⟨S4x256x1024, .f32⟩
  | .hbm, ⟨24, _⟩ => ⟨S4x256x2x4x128, .f32⟩
  | .hbm, ⟨25, _⟩ => ⟨S4x256x1x4x128, .f32⟩
  | .hbm, ⟨26, _⟩ => ⟨S4x256x4x128, .f32⟩
  | .hbm, ⟨27, _⟩ => ⟨S4x256x1x4x128, .f32⟩
  | .hbm, ⟨28, _⟩ => ⟨S4x256x4x128, .f32⟩
  | .hbm, ⟨29, _⟩ => ⟨S32768x512, .f32⟩
  | .hbm, ⟨30, _⟩ => ⟨S4x8192x512, .f32⟩
  | .hbm, ⟨31, _⟩ => ⟨S4x8192x4x128, .f32⟩
  | .hbm, ⟨32, _⟩ => ⟨S_, .f32⟩
  | .hbm, ⟨33, _⟩ => ⟨S_, .f32⟩
  | .hbm, ⟨34, _⟩ => ⟨S4x8192x4x128, .f32⟩
  | .hbm, ⟨35, _⟩ => ⟨S4x8192x4x128, .f32⟩
  | .hbm, ⟨36, _⟩ => ⟨S4x4x8192x256, .f32⟩
  | .hbm, ⟨37, _⟩ => ⟨S_, .f32⟩
  | .hbm, ⟨38, _⟩ => ⟨S4x4x8192, .f32⟩
  | .hbm, ⟨39, _⟩ => ⟨S_, .f32⟩
  | .hbm, ⟨40, _⟩ => ⟨S4x4x8192, .f32⟩
  | .hbm, ⟨41, _⟩ => ⟨S4x4x8192, .f32⟩
  | .hbm, ⟨42, _⟩ => ⟨S4x4x8192x1, .f32⟩
  | .hbm, ⟨43, _⟩ => ⟨S4x4x8192x256, .f32⟩
  | .hbm, ⟨44, _⟩ => ⟨S4x4x8192x256, .f32⟩
  | .hbm, ⟨45, _⟩ => ⟨S4x4x8192x256, .f32⟩
  | .hbm, ⟨46, _⟩ => ⟨S_, .f32⟩
  | .hbm, ⟨47, _⟩ => ⟨S4x4x8192, .f32⟩
  | .hbm, ⟨48, _⟩ => ⟨S4x4x8192x1, .f32⟩
  | .hbm, ⟨49, _⟩ => ⟨S4x4x8192x256, .f32⟩
  | .hbm, ⟨50, _⟩ => ⟨S4x4x8192x256, .f32⟩
  | .hbm, ⟨51, _⟩ => ⟨S4x4x128x8192, .f32⟩
  | .hbm, ⟨52, _⟩ => ⟨S4x8192x4x128, .f32⟩
  | .hbm, ⟨53, _⟩ => ⟨S4x8192x512, .f32⟩
  | .hbm, ⟨54, _⟩ => ⟨S32768x512, .f32⟩
  | .hbm, ⟨55, _⟩ => ⟨S4x8192x512, .f32⟩
  | .hbm, ⟨56, _⟩ => ⟨S4x8192x1024, .f32⟩
  | .hbm, ⟨57, _⟩ => ⟨S4x8192x1024, .f32⟩
  | .hbm, ⟨58, _⟩ => ⟨S4x8192x1024, .f32⟩
  | .hbm, ⟨59, _⟩ => ⟨S4x8192x1024, .f32⟩
  | .hbm, ⟨60, _⟩ => ⟨S32768x1024, .f32⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]
-- ==== Ffn.lean ====
abbrev S32768x1024 : Shape := ⟨2, ![32768, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1x1024 : Shape := ⟨2, ![1, 1024]⟩
abbrev S1x2816 : Shape := ⟨2, ![1, 2816]⟩
abbrev S1024x1024 : Shape := ⟨2, ![1024, 1024]⟩
abbrev S1024x2816 : Shape := ⟨2, ![1024, 2816]⟩
abbrev S11x8x256 : Shape := ⟨3, ![11, 8, 256]⟩
abbrev S1024x1 : Shape := ⟨2, ![1024, 1]⟩
abbrev S8x256 : Shape := ⟨2, ![8, 256]⟩
abbrev S1024x256 : Shape := ⟨2, ![1024, 256]⟩
abbrev S1x8x256 : Shape := ⟨3, ![1, 8, 256]⟩
abbrev S1x256 : Shape := ⟨2, ![1, 256]⟩
abbrev S1016x256 : Shape := ⟨2, ![1016, 256]⟩

abbrev nBuf : Space → Nat
  | .hbm => 13
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S1024, .f32⟩
  | .hbm, ⟨7, _⟩ => ⟨S1x1024, .f32⟩
  | .hbm, ⟨8, _⟩ => ⟨S1024x5632, .bf16⟩
  | .hbm, ⟨9, _⟩ => ⟨S1x2816, .f32⟩
  | .hbm, ⟨10, _⟩ => ⟨S2816x1024, .bf16⟩
  | .hbm, ⟨11, _⟩ => ⟨S1x1024, .f32⟩
  | .hbm, ⟨12, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x5632, .bf16⟩
  | .local _ .vmem, ⟨4, _⟩ => ⟨S3x2816, .f32⟩
  | .local _ .vmem, ⟨5, _⟩ => ⟨S1x2816, .f32⟩
  | .local _ .vmem, ⟨6, _⟩ => ⟨S2816x1024, .bf16⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x2816, .bf16⟩
  | .local _ .vmem, ⟨11, _⟩ => ⟨S11x8x256, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FfnRefIdeal.lean ====
abbrev S32768x1024 : Shape := ⟨2, ![32768, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S4x8192x1024 : Shape := ⟨3, ![4, 8192, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x5632 : Shape := ⟨3, ![4, 8192, 5632]⟩
abbrev S4x8192x2816 : Shape := ⟨3, ![4, 8192, 2816]⟩
abbrev S4x8194x2816 : Shape := ⟨3, ![4, 8194, 2816]⟩
abbrev S1x2816 : Shape := ⟨2, ![1, 2816]⟩
abbrev S1x1x2816 : Shape := ⟨3, ![1, 1, 2816]⟩

abbrev nBuf : Space → Nat
  | .hbm => 85
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S1024, .f32⟩
  | .hbm, ⟨7, _⟩ => ⟨S4x8192x1024, .f32⟩
  | .hbm, ⟨8, _⟩ => ⟨S4x8192x1024, .f32⟩
  | .hbm, ⟨9, _⟩ => ⟨S_, .f32⟩
  | .hbm, ⟨10, _⟩ => ⟨S4x8192, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S4x8192x1, .f32⟩
  | .hbm, ⟨19, _⟩ => ⟨S4x8192x1024, .f32⟩
  | .hbm, ⟨20, _⟩ => ⟨S4x8192x1024, .f32⟩
  | .hbm, ⟨21, _⟩ => ⟨S1x1x1024, .f32⟩
  | .hbm, ⟨22, _⟩ => ⟨S4x8192x1024, .f32⟩
  | .hbm, ⟨23, _⟩ => ⟨S4x8192x1024, .f32⟩
  | .hbm, ⟨24, _⟩ => ⟨S4x8192x5632, .f32⟩
  | .hbm, ⟨25, _⟩ => ⟨S4x8192x2816, .f32⟩
  | .hbm, ⟨26, _⟩ => ⟨S4x8192x2816, .f32⟩
  | .hbm, ⟨27, _⟩ => ⟨S_, .i32⟩
  | .hbm, ⟨28, _⟩ => ⟨S_, .f32⟩
  | .hbm, ⟨29, _⟩ => ⟨S4x8194x2816, .f32⟩
  | .hbm, ⟨30, _⟩ => ⟨S4x8192x2816, .f32⟩
  | .hbm, ⟨31, _⟩ => ⟨S1x2816, .f32⟩
  | .hbm, ⟨32, _⟩ => ⟨S2816, .f32⟩
  | .hbm, ⟨33, _⟩ => ⟨S1x1x2816, .f32⟩
  | .hbm, ⟨34, _⟩ => ⟨S4x8192x2816, .f32⟩
  | .hbm, ⟨35, _⟩ => ⟨S4x8192x2816, .f32⟩
  | .hbm, ⟨36, _⟩ => ⟨S_, .f32⟩
  | .hbm, ⟨37, _⟩ => ⟨S4x8192x2816, .f32⟩
  | .hbm, ⟨38, _⟩ => ⟨S4x8192x2816, .f32⟩
  | .hbm, ⟨39, _⟩ => ⟨S4x8192x2816, .f32⟩
  | .hbm, ⟨40, _⟩ => ⟨S1x2816, .f32⟩
  | .hbm, ⟨41, _⟩ => ⟨S2816, .f32⟩
  | .hbm, ⟨42, _⟩ => ⟨S1x1x2816, .f32⟩
  | .hbm, ⟨43, _⟩ => ⟨S4x8192x2816, .f32⟩
  | .hbm, ⟨44, _⟩ => ⟨S4x8192x2816, .f32⟩
  | .hbm, ⟨45, _⟩ => ⟨S4x8192x2816, .f32⟩
  | .hbm, ⟨46, _⟩ => ⟨S4x8192x2816, .f32⟩
  | .hbm, ⟨47, _⟩ => ⟨S1x2816, .f32⟩
  | .hbm, ⟨48, _⟩ => ⟨S2816, .f32⟩
  | .hbm, ⟨49, _⟩ => ⟨S1x1x2816, .f32⟩
  | .hbm, ⟨50, _⟩ => ⟨S4x8192x2816, .f32⟩
  | .hbm, ⟨51, _⟩ => ⟨S4x8192x2816, .f32⟩
  | .hbm, ⟨52, _⟩ => ⟨S4x8192x2816, .f32⟩
  | .hbm, ⟨53, _⟩ => ⟨S1x1x2816, .f32⟩
  | .hbm, ⟨54, _⟩ => ⟨S4x8192x2816, .f32⟩
  | .hbm, ⟨55, _⟩ => ⟨S4x8192x2816, .f32⟩
  | .hbm, ⟨56, _⟩ => ⟨S4x8192x2816, .f32⟩
  | .hbm, ⟨57, _⟩ => ⟨S4x8192x2816, .f32⟩
  | .hbm, ⟨58, _⟩ => ⟨S_, .f32⟩
  | .hbm, ⟨59, _⟩ => ⟨S4x8192x2816, .f32⟩
  | .hbm, ⟨60, _⟩ => ⟨S4x8192x2816, .f32⟩
  | .hbm, ⟨61, _⟩ => ⟨S_, .f32⟩
  | .hbm, ⟨62, _⟩ => ⟨S4x8192x2816, .f32⟩
  | .hbm, ⟨63, _⟩ => ⟨S4x8192x2816, .f32⟩
  | .hbm, ⟨64, _⟩ => ⟨S4x8192x2816, .f32⟩
  | .hbm, ⟨65, _⟩ => ⟨S4x8192x2816, .f32⟩
  | .hbm, ⟨66, _⟩ => ⟨S4x8192x1024, .f32⟩
  | .hbm, ⟨67, _⟩ => ⟨S4x8192x1024, .f32⟩
  | .hbm, ⟨68, _⟩ => ⟨S4x8192x1024, .f32⟩
  | .hbm, ⟨69, _⟩ => ⟨S_, .f32⟩
  | .hbm, ⟨70, _⟩ => ⟨S4x8192, .f32⟩
  | .hbm, ⟨71, _⟩ => ⟨S4x8192x1, .f32⟩
  | .hbm, ⟨72, _⟩ => ⟨S_, .f32⟩
  | .hbm, ⟨73, _⟩ => ⟨S4x8192x1, .f32⟩
  | .hbm, ⟨74, _⟩ => ⟨S4x8192x1, .f32⟩
  | .hbm, ⟨75, _⟩ => ⟨S_, .f32⟩
  | .hbm, ⟨76, _⟩ => ⟨S4x8192x1, .f32⟩
  | .hbm, ⟨77, _⟩ => ⟨S4x8192x1, .f32⟩
  | .hbm, ⟨78, _⟩ => ⟨S4x8192x1, .f32⟩
  | .hbm, ⟨79, _⟩ => ⟨S4x8192x1024, .f32⟩
  | .hbm, ⟨80, _⟩ => ⟨S4x8192x1024, .f32⟩
  | .hbm, ⟨81, _⟩ => ⟨S1x1x1024, .f32⟩
  | .hbm, ⟨82, _⟩ => ⟨S4x8192x1024, .f32⟩
  | .hbm, ⟨83, _⟩ => ⟨S4x8192x1024, .f32⟩
  | .hbm, ⟨84, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_call0_v0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_call1_v0 : Ref sig .tc := ⟨.hbm, 56, rfl⟩
abbrev main_call1_v1 : Ref sig .tc := ⟨.hbm, 57, rfl⟩
abbrev main_call1_cst : Ref sig .tc := ⟨.hbm, 58, rfl⟩
abbrev main_call1_v2 : Ref sig .tc := ⟨.hbm, 59, rfl⟩
abbrev main_call1_v3 : Ref sig .tc := ⟨.hbm, 60, rfl⟩
abbrev main_call1_cst_0 : Ref sig .tc := ⟨.hbm, 61, rfl⟩
abbrev main_call1_v4 : Ref sig .tc := ⟨.hbm, 62, rfl⟩
abbrev main_call1_v5 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_3 : Ref sig .tc := ⟨.hbm, 69, rfl⟩
abbrev main_v48 : Ref sig .tc := ⟨.hbm, 70, rfl⟩
abbrev main_v49 : Ref sig .tc := ⟨.hbm, 71, rfl⟩
abbrev main_cst_4 : Ref sig .tc := ⟨.hbm, 72, rfl⟩
abbrev main_v50 : Ref sig .tc := ⟨.hbm, 73, rfl⟩
abbrev main_v51 : Ref sig .tc := ⟨.hbm, 74, rfl⟩
abbrev main_cst_5 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩

abbrev nD : Nat := 1
abbrev τ : Topo := Topo.v7x

variable {F : FTy → Type} [FloatOps F]
-- ==== Mid.lean ====
abbrev S32768x1024 : Shape := ⟨2, ![32768, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1x1024 : Shape := ⟨2, ![1, 1024]⟩
abbrev S1x2816 : Shape := ⟨2, ![1, 2816]⟩
abbrev S1024x1024 : Shape := ⟨2, ![1024, 1024]⟩
abbrev S1024x2816 : Shape := ⟨2, ![1024, 2816]⟩
abbrev S11x8x256 : Shape := ⟨3, ![11, 8, 256]⟩
abbrev S1024x1 : Shape := ⟨2, ![1024, 1]⟩
abbrev S8x256 : Shape := ⟨2, ![8, 256]⟩
abbrev S1024x256 : Shape := ⟨2, ![1024, 256]⟩
abbrev S1x8x256 : Shape := ⟨3, ![1, 8, 256]⟩
abbrev S1x256 : Shape := ⟨2, ![1, 256]⟩
abbrev S1016x256 : Shape := ⟨2, ![1016, 256]⟩

abbrev nBuf : Space → Nat
  | .hbm => 13
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S1024, .f32⟩
  | .hbm, ⟨7, _⟩ => ⟨S1x1024, .f32⟩
  | .hbm, ⟨8, _⟩ => ⟨S1024x5632, .bf16⟩
  | .hbm, ⟨9, _⟩ => ⟨S1x2816, .f32⟩
  | .hbm, ⟨10, _⟩ => ⟨S2816x1024, .bf16⟩
  | .hbm, ⟨11, _⟩ => ⟨S1x1024, .f32⟩
  | .hbm, ⟨12, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x5632, .bf16⟩
  | .local _ .vmem, ⟨4, _⟩ => ⟨S3x2816, .f32⟩
  | .local _ .vmem, ⟨5, _⟩ => ⟨S1x2816, .f32⟩
  | .local _ .vmem, ⟨6, _⟩ => ⟨S2816x1024, .bf16⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x2816, .bf16⟩
  | .local _ .vmem, ⟨11, _⟩ => ⟨S11x8x256, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MidRefIdeal.lean ====
abbrev S32768x1024 : Shape := ⟨2, ![32768, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S4x8192x1024 : Shape := ⟨3, ![4, 8192, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x5632 : Shape := ⟨3, ![4, 8192, 5632]⟩
abbrev S4x8192x2816 : Shape := ⟨3, ![4, 8192, 2816]⟩
abbrev S4x8194x2816 : Shape := ⟨3, ![4, 8194, 2816]⟩
abbrev S1x2816 : Shape := ⟨2, ![1, 2816]⟩
abbrev S1x1x2816 : Shape := ⟨3, ![1, 1, 2816]⟩

abbrev nBuf : Space → Nat
  | .hbm => 69
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S1024, .f32⟩
  | .hbm, ⟨7, _⟩ => ⟨S4x8192x1024, .f32⟩
  | .hbm, ⟨8, _⟩ => ⟨S4x8192x1024, .f32⟩
  | .hbm, ⟨9, _⟩ => ⟨S_, .f32⟩
  | .hbm, ⟨10, _⟩ => ⟨S4x8192, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S4x8192x1, .f32⟩
  | .hbm, ⟨19, _⟩ => ⟨S4x8192x1024, .f32⟩
  | .hbm, ⟨20, _⟩ => ⟨S4x8192x1024, .f32⟩
  | .hbm, ⟨21, _⟩ => ⟨S1x1x1024, .f32⟩
  | .hbm, ⟨22, _⟩ => ⟨S4x8192x1024, .f32⟩
  | .hbm, ⟨23, _⟩ => ⟨S4x8192x1024, .f32⟩
  | .hbm, ⟨24, _⟩ => ⟨S4x8192x5632, .f32⟩
  | .hbm, ⟨25, _⟩ => ⟨S4x8192x2816, .f32⟩
  | .hbm, ⟨26, _⟩ => ⟨S4x8192x2816, .f32⟩
  | .hbm, ⟨27, _⟩ => ⟨S_, .i32⟩
  | .hbm, ⟨28, _⟩ => ⟨S_, .f32⟩
  | .hbm, ⟨29, _⟩ => ⟨S4x8194x2816, .f32⟩
  | .hbm, ⟨30, _⟩ => ⟨S4x8192x2816, .f32⟩
  | .hbm, ⟨31, _⟩ => ⟨S1x2816, .f32⟩
  | .hbm, ⟨32, _⟩ => ⟨S2816, .f32⟩
  | .hbm, ⟨33, _⟩ => ⟨S1x1x2816, .f32⟩
  | .hbm, ⟨34, _⟩ => ⟨S4x8192x2816, .f32⟩
  | .hbm, ⟨35, _⟩ => ⟨S4x8192x2816, .f32⟩
  | .hbm, ⟨36, _⟩ => ⟨S_, .f32⟩
  | .hbm, ⟨37, _⟩ => ⟨S4x8192x2816, .f32⟩
  | .hbm, ⟨38, _⟩ => ⟨S4x8192x2816, .f32⟩
  | .hbm, ⟨39, _⟩ => ⟨S4x8192x2816, .f32⟩
  | .hbm, ⟨40, _⟩ => ⟨S1x2816, .f32⟩
  | .hbm, ⟨41, _⟩ => ⟨S2816, .f32⟩
  | .hbm, ⟨42, _⟩ => ⟨S1x1x2816, .f32⟩
  | .hbm, ⟨43, _⟩ => ⟨S4x8192x2816, .f32⟩
  | .hbm, ⟨44, _⟩ => ⟨S4x8192x2816, .f32⟩
  | .hbm, ⟨45, _⟩ => ⟨S4x8192x2816, .f32⟩
  | .hbm, ⟨46, _⟩ => ⟨S4x8192x2816, .f32⟩
  | .hbm, ⟨47, _⟩ => ⟨S1x2816, .f32⟩
  | .hbm, ⟨48, _⟩ => ⟨S2816, .f32⟩
  | .hbm, ⟨49, _⟩ => ⟨S1x1x2816, .f32⟩
  | .hbm, ⟨50, _⟩ => ⟨S4x8192x2816, .f32⟩
  | .hbm, ⟨51, _⟩ => ⟨S4x8192x2816, .f32⟩
  | .hbm, ⟨52, _⟩ => ⟨S4x8192x2816, .f32⟩
  | .hbm, ⟨53, _⟩ => ⟨S1x1x2816, .f32⟩
  | .hbm, ⟨54, _⟩ => ⟨S4x8192x2816, .f32⟩
  | .hbm, ⟨55, _⟩ => ⟨S4x8192x2816, .f32⟩
  | .hbm, ⟨56, _⟩ => ⟨S4x8192x2816, .f32⟩
  | .hbm, ⟨57, _⟩ => ⟨S4x8192x2816, .f32⟩
  | .hbm, ⟨58, _⟩ => ⟨S_, .f32⟩
  | .hbm, ⟨59, _⟩ => ⟨S4x8192x2816, .f32⟩
  | .hbm, ⟨60, _⟩ => ⟨S4x8192x2816, .f32⟩
  | .hbm, ⟨61, _⟩ => ⟨S_, .f32⟩
  | .hbm, ⟨62, _⟩ => ⟨S4x8192x2816, .f32⟩
  | .hbm, ⟨63, _⟩ => ⟨S4x8192x2816, .f32⟩
  | .hbm, ⟨64, _⟩ => ⟨S4x8192x2816, .f32⟩
  | .hbm, ⟨65, _⟩ => ⟨S4x8192x2816, .f32⟩
  | .hbm, ⟨66, _⟩ => ⟨S4x8192x1024, .f32⟩
  | .hbm, ⟨67, _⟩ => ⟨S4x8192x1024, .f32⟩
  | .hbm, ⟨68, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_call0_v0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_call1_v0 : Ref sig .tc := ⟨.hbm, 56, rfl⟩
abbrev main_call1_v1 : Ref sig .tc := ⟨.hbm, 57, rfl⟩
abbrev main_call1_cst : Ref sig .tc := ⟨.hbm, 58, rfl⟩
abbrev main_call1_v2 : Ref sig .tc := ⟨.hbm, 59, rfl⟩
abbrev main_call1_v3 : Ref sig .tc := ⟨.hbm, 60, rfl⟩
abbrev main_call1_cst_0 : Ref sig .tc := ⟨.hbm, 61, rfl⟩
abbrev main_call1_v4 : Ref sig .tc := ⟨.hbm, 62, rfl⟩
abbrev main_call1_v5 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩

abbrev nD : Nat := 1
abbrev τ : Topo := Topo.v7x

variable {F : FTy → Type} [FloatOps F]
-- ==== Inp.lean ====
abbrev S32768x1024 : Shape := ⟨2, ![32768, 1024]⟩
abbrev S1024 : Shape := ⟨1, ![1024]⟩
abbrev S1024x2064 : Shape := ⟨2, ![1024, 2064]⟩
abbrev S16x256 : Shape := ⟨2, ![16, 256]⟩
abbrev S256 : Shape := ⟨1, ![256]⟩
abbrev S1024x1536 : Shape := ⟨2, ![1024, 1536]⟩
abbrev S1024x512 : Shape := ⟨2, ![1024, 512]⟩
abbrev S1024x16 : Shape := ⟨2, ![1024, 16]⟩
abbrev S_ : Shape := ⟨0, ![]⟩
abbrev S1024x128 : Shape := ⟨2, ![1024, 128]⟩
abbrev S1024x2176 : Shape := ⟨2, ![1024, 2176]⟩
abbrev S128x256 : Shape := ⟨2, ![128, 256]⟩
abbrev S1x1024 : Shape := ⟨2, ![1, 1024]⟩
abbrev S1x256 : Shape := ⟨2, ![1, 256]⟩
abbrev S32768x256 : Shape := ⟨2, ![32768, 256]⟩
abbrev S32768x512 : Shape := ⟨2, ![32768, 512]⟩
abbrev S1024x1024 : Shape := ⟨2, ![1024, 1024]⟩
abbrev S1024x256 : Shape := ⟨2, ![1024, 256]⟩
abbrev S1024x1 : Shape := ⟨2, ![1024, 1]⟩

abbrev nBuf : Space → Nat
  | .hbm => 25
  | .vmem => 18
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2064, .f32⟩
  | .hbm, ⟨3, _⟩ => ⟨S16x256, .f32⟩
  | .hbm, ⟨4, _⟩ => ⟨S256, .f32⟩
  | .hbm, ⟨5, _⟩ => ⟨S1024x1536, .f32⟩
  | .hbm, ⟨6, _⟩ => ⟨S1024x512, .f32⟩
  | .hbm, ⟨7, _⟩ => ⟨S1024x16, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1024x2176, .f32⟩
  | .hbm, ⟨12, _⟩ => ⟨S1024x2176, .bf16⟩
  | .hbm, ⟨13, _⟩ => ⟨S_, .i32⟩
  | .hbm, ⟨14, _⟩ => ⟨S_, .f32⟩
  | .hbm, ⟨15, _⟩ => ⟨S128x256, .f32⟩
  | .hbm, ⟨16, _⟩ => ⟨S128x256, .bf16⟩
  | .hbm, ⟨17, _⟩ => ⟨S1x1024, .f32⟩
  | .hbm, ⟨18, _⟩ => ⟨S1x256, .f32⟩
  | .hbm, ⟨19, _⟩ => ⟨S32768x256, .f32⟩
  | .hbm, ⟨20, _⟩ => ⟨S32768x256, .f32⟩
  | .hbm, ⟨21, _⟩ => ⟨S32768x256, .f32⟩
  | .hbm, ⟨22, _⟩ => ⟨S32768x512, .bf16⟩
  | .hbm, ⟨23, _⟩ => ⟨S32768x512, .f32⟩
  | .hbm, ⟨24, _⟩ => ⟨S32768x512, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2176, .bf16⟩
  | .local _ .vmem, ⟨4, _⟩ => ⟨S128x256, .bf16⟩
  | .local _ .vmem, ⟨5, _⟩ => ⟨S1x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x512, .bf16⟩
  | .local _ .vmem, ⟨13, _⟩ => ⟨S1024x512, .bf16⟩
  | .local _ .vmem, ⟨14, _⟩ => ⟨S1024x512, .f32⟩
  | .local _ .vmem, ⟨15, _⟩ => ⟨S1024x512, .f32⟩
  | .local _ .vmem, ⟨16, _⟩ => ⟨S1024x512, .bf16⟩
  | .local _ .vmem, ⟨17, _⟩ => ⟨S1024x512, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_call1_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev main_v10_3 : Ref sig .tc := ⟨.hbm, 22, rfl⟩
abbrev main_v10_4 : Ref sig .tc := ⟨.hbm, 23, rfl⟩
abbrev main_v10_5 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2176 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== InpRefIdeal.lean ====
abbrev S32768x1024 : Shape := ⟨2, ![32768, 1024]⟩
abbrev S1024 : Shape := ⟨1, ![1024]⟩
abbrev S1024x2064 : Shape := ⟨2, ![1024, 2064]⟩
abbrev S16x256 : Shape := ⟨2, ![16, 256]⟩
abbrev S256 : Shape := ⟨1, ![256]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2064 : Shape := ⟨2, ![32768, 2064]⟩
abbrev S32768x256 : Shape := ⟨2, ![32768, 256]⟩
abbrev S32768x512 : Shape := ⟨2, ![32768, 512]⟩
abbrev S32768x16 : Shape := ⟨2, ![32768, 16]⟩
abbrev S1x256 : Shape := ⟨2, ![1, 256]⟩

abbrev nBuf : Space → Nat
  | .hbm => 56
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2064, .f32⟩
  | .hbm, ⟨3, _⟩ => ⟨S16x256, .f32⟩
  | .hbm, ⟨4, _⟩ => ⟨S256, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S32768x2064, .f32⟩
  | .hbm, ⟨22, _⟩ => ⟨S32768x256, .f32⟩
  | .hbm, ⟨23, _⟩ => ⟨S32768x256, .f32⟩
  | .hbm, ⟨24, _⟩ => ⟨S32768x512, .f32⟩
  | .hbm, ⟨25, _⟩ => ⟨S32768x512, .f32⟩
  | .hbm, ⟨26, _⟩ => ⟨S32768x16, .f32⟩
  | .hbm, ⟨27, _⟩ => ⟨S32768x512, .f32⟩
  | .hbm, ⟨28, _⟩ => ⟨S_, .f32⟩
  | .hbm, ⟨29, _⟩ => ⟨S32768x256, .f32⟩
  | .hbm, ⟨30, _⟩ => ⟨S32768x256, .f32⟩
  | .hbm, ⟨31, _⟩ => ⟨S32768x256, .f32⟩
  | .hbm, ⟨32, _⟩ => ⟨S1x256, .f32⟩
  | .hbm, ⟨33, _⟩ => ⟨S32768x256, .f32⟩
  | .hbm, ⟨34, _⟩ => ⟨S32768x256, .f32⟩
  | .hbm, ⟨35, _⟩ => ⟨S32768x256, .f32⟩
  | .hbm, ⟨36, _⟩ => ⟨S_, .f32⟩
  | .hbm, ⟨37, _⟩ => ⟨S32768x256, .f32⟩
  | .hbm, ⟨38, _⟩ => ⟨S32768x256, .f32⟩
  | .hbm, ⟨39, _⟩ => ⟨S32768x256, .f32⟩
  | .hbm, ⟨40, _⟩ => ⟨S32768x256, .f32⟩
  | .hbm, ⟨41, _⟩ => ⟨S32768x256, .i1⟩
  | .hbm, ⟨42, _⟩ => ⟨S32768x256, .f32⟩
  | .hbm, ⟨43, _⟩ => ⟨S32768x256, .f32⟩
  | .hbm, ⟨44, _⟩ => ⟨S32768x256, .f32⟩
  | .hbm, ⟨45, _⟩ => ⟨S32768x256, .f32⟩
  | .hbm, ⟨46, _⟩ => ⟨S32768x256, .f32⟩
  | .hbm, ⟨47, _⟩ => ⟨S32768x256, .f32⟩
  | .hbm, ⟨48, _⟩ => ⟨S32768x256, .f32⟩
  | .hbm, ⟨49, _⟩ => ⟨S32768x256, .f32⟩
  | .hbm, ⟨50, _⟩ => ⟨S32768x256, .f32⟩
  | .hbm, ⟨51, _⟩ => ⟨S_, .f32⟩
  | .hbm, ⟨52, _⟩ => ⟨S32768x256, .f32⟩
  | .hbm, ⟨53, _⟩ => ⟨S32768x256, .f32⟩
  | .hbm, ⟨54, _⟩ => ⟨S32768x512, .bf16⟩
  | .hbm, ⟨55, _⟩ => ⟨S32768x512, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_call0_v0 : Ref sig .tc := ⟨.hbm, 35, rfl⟩
abbrev main_call0_call0_cst : Ref sig .tc := ⟨.hbm, 36, rfl⟩
abbrev main_call0_call0_v0 : Ref sig .tc := ⟨.hbm, 37, rfl⟩
abbrev main_call0_call0_v1 : Ref sig .tc := ⟨.hbm, 38, rfl⟩
abbrev main_call0_call0_v2 : Ref sig .tc := ⟨.hbm, 39, rfl⟩
abbrev main_call0_call0_v3 : Ref sig .tc := ⟨.hbm, 40, rfl⟩
abbrev main_call0_call0_v4 : Ref sig .tc := ⟨.hbm, 41, rfl⟩
abbrev main_call0_call0_v5 : Ref sig .tc := ⟨.hbm, 42, rfl⟩
abbrev main_call0_call0_v6 : Ref sig .tc := ⟨.hbm, 43, rfl⟩
abbrev main_call0_call0_v7 : Ref sig .tc := ⟨.hbm, 44, rfl⟩
abbrev main_call0_call0_v8 : Ref sig .tc := ⟨.hbm, 45, rfl⟩
abbrev main_call0_call0_v9 : Ref sig .tc := ⟨.hbm, 46, rfl⟩
abbrev main_call0_call0_v10 : Ref sig .tc := ⟨.hbm, 47, rfl⟩
abbrev main_call0_call0_v11 : Ref sig .tc := ⟨.hbm, 48, rfl⟩
abbrev main_call0_v1 : Ref sig .tc := ⟨.hbm, 49, rfl⟩
abbrev main_v26 : Ref sig .tc := ⟨.hbm, 50, rfl⟩
abbrev main_cst_3 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩

abbrev nD : Nat := 1
abbrev τ : Topo := Topo.v7x

variable {F : FTy → Type} [FloatOps F]
-- ==== Projb.lean ====
abbrev S32768x1024 : Shape := ⟨2, ![32768, 1024]⟩
abbrev S1024 : Shape := ⟨1, ![1024]⟩
abbrev S1024x768 : Shape := ⟨2, ![1024, 768]⟩
abbrev S1024x1048 : Shape := ⟨2, ![1024, 1048]⟩
abbrev S1024x512 : Shape := ⟨2, ![1024, 512]⟩
abbrev S512x1024 : Shape := ⟨2, ![512, 1024]⟩
abbrev S1024x24 : Shape := ⟨2, ![1024, 24]⟩
abbrev S24x1024 : Shape := ⟨2, ![24, 1024]⟩
abbrev S_ : Shape := ⟨0, ![]⟩
abbrev S32x1024 : Shape := ⟨2, ![32, 1024]⟩
abbrev S1x1024 : Shape := ⟨2, ![1, 1024]⟩
abbrev S2x2048x2048 : Shape := ⟨3, ![2, 2048, 2048]⟩
abbrev S32768x512 : Shape := ⟨2, ![32768, 512]⟩
abbrev S4x512x8192 : Shape := ⟨3, ![4, 512, 8192]⟩
abbrev S4x32x8192 : Shape := ⟨3, ![4, 32, 8192]⟩
abbrev S1024x1024 : Shape := ⟨2, ![1024, 1024]⟩
abbrev S2x64x2048 : Shape := ⟨3, ![2, 64, 2048]⟩
abbrev S1x512x1024 : Shape := ⟨3, ![1, 512, 1024]⟩
abbrev S1x32x1024 : Shape := ⟨3, ![1, 32, 1024]⟩
abbrev S2x1024x128 : Shape := ⟨3, ![2, 1024, 128]⟩
abbrev S1024x1 : Shape := ⟨2, ![1024, 1]⟩
abbrev S1024x256 : Shape := ⟨2, ![1024, 256]⟩
abbrev S1024x128 : Shape := ⟨2, ![1024, 128]⟩
abbrev S1x1024x128 : Shape := ⟨3, ![1, 1024, 128]⟩
abbrev S1x64x128 : Shape := ⟨3, ![1, 64, 128]⟩
abbrev S64x128 : Shape := ⟨2, ![64, 128]⟩

abbrev nBuf : Space → Nat
  | .hbm => 24
  | .vmem => 19
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024, .f32⟩
  | .hbm, ⟨3, _⟩ => ⟨S1024x768, .f32⟩
  | .hbm, ⟨4, _⟩ => ⟨S1024x1048, .f32⟩
  | .hbm, ⟨5, _⟩ => ⟨S1024x512, .f32⟩
  | .hbm, ⟨6, _⟩ => ⟨S512x1024, .f32⟩
  | .hbm, ⟨7, _⟩ => ⟨S512x1024, .bf16⟩
  | .hbm, ⟨8, _⟩ => ⟨S1024x24, .f32⟩
  | .hbm, ⟨9, _⟩ => ⟨S24x1024, .f32⟩
  | .hbm, ⟨10, _⟩ => ⟨S_, .i32⟩
  | .hbm, ⟨11, _⟩ => ⟨S_, .f32⟩
  | .hbm, ⟨12, _⟩ => ⟨S32x1024, .f32⟩
  | .hbm, ⟨13, _⟩ => ⟨S32x1024, .bf16⟩
  | .hbm, ⟨14, _⟩ => ⟨S1024x512, .f32⟩
  | .hbm, ⟨15, _⟩ => ⟨S1024x512, .bf16⟩
  | .hbm, ⟨16, _⟩ => ⟨S1x1024, .f32⟩
  | .hbm, ⟨17, _⟩ => ⟨S1x1024, .f32⟩
  | .hbm, ⟨18, _⟩ => ⟨S1024x768, .bf16⟩
  | .hbm, ⟨19, _⟩ => ⟨S2x2048x2048, .bf16⟩
  | .hbm, ⟨20, _⟩ => ⟨S32768x512, .bf16⟩
  | .hbm, ⟨21, _⟩ => ⟨S4x512x8192, .bf16⟩
  | .hbm, ⟨22, _⟩ => ⟨S4x32x8192, .f32⟩
  | .hbm, ⟨23, _⟩ => ⟨S32768x512, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1024x768, .bf16⟩
  | .local _ .vmem, ⟨5, _⟩ => ⟨S512x1024, .bf16⟩
  | .local _ .vmem, ⟨6, _⟩ => ⟨S32x1024, .bf16⟩
  | .local _ .vmem, ⟨7, _⟩ => ⟨S1024x512, .bf16⟩
  | .local _ .vmem, ⟨8, _⟩ => ⟨S2x64x2048, .bf16⟩
  | .local _ .vmem, ⟨9, _⟩ => ⟨S2x64x2048, .bf16⟩
  | .local _ .vmem, ⟨10, _⟩ => ⟨S1024x512, .bf16⟩
  | .local _ .vmem, ⟨11, _⟩ => ⟨S1024x512, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x32x1024, .f32⟩
  | .local _ .vmem, ⟨15, _⟩ => ⟨S1x32x1024, .f32⟩
  | .local _ .vmem, ⟨16, _⟩ => ⟨S1024x512, .bf16⟩
  | .local _ .vmem, ⟨17, _⟩ => ⟨S1024x512, .bf16⟩
  | .local _ .vmem, ⟨18, _⟩ => ⟨S2x1024x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v12_2 : Ref sig .tc := ⟨.hbm, 21, rfl⟩
abbrev main_v12_3 : Ref sig .tc := ⟨.hbm, 22, rfl⟩
abbrev main_v12_4 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S32x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2x64x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x32x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ProjbIdeal.lean ====
variable {F : FTy → Type} [FloatOps F] [Named F]
def κ : String → Option EReal := fun
  | "q_scale_log2e" => some (((Real.log 2)⁻¹ * (Real.sqrt 64)⁻¹ : ℝ) : EReal)
  | _ => none
-- ==== ProjbRefIdeal.lean ====
abbrev S32768x1024 : Shape := ⟨2, ![32768, 1024]⟩
abbrev S1024 : Shape := ⟨1, ![1024]⟩
abbrev S1024x768 : Shape := ⟨2, ![1024, 768]⟩
abbrev S1024x1048 : Shape := ⟨2, ![1024, 1048]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x768 : Shape := ⟨2, ![32768, 768]⟩
abbrev S32768x1048 : Shape := ⟨2, ![32768, 1048]⟩
abbrev S32768x512 : Shape := ⟨2, ![32768, 512]⟩
abbrev S32768x24 : Shape := ⟨2, ![32768, 24]⟩
abbrev S32768x256 : Shape := ⟨2, ![32768, 256]⟩
abbrev S2048x16x2x128 : Shape := ⟨4, ![2048, 16, 2, 128]⟩
abbrev S2x2048x16x128 : Shape := ⟨4, ![2, 2048, 16, 128]⟩
abbrev S2x2048x2048 : Shape := ⟨3, ![2, 2048, 2048]⟩
abbrev S32768x32 : Shape := ⟨2, ![32768, 32]⟩
abbrev S4x8192x512 : Shape := ⟨3, ![4, 8192, 512]⟩
abbrev S4x512x8192 : Shape := ⟨3, ![4, 512, 8192]⟩
abbrev S4x8192x32 : Shape := ⟨3, ![4, 8192, 32]⟩
abbrev S4x32x8192 : Shape := ⟨3, ![4, 32, 8192]⟩

abbrev nBuf : Space → Nat
  | .hbm => 74
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024, .f32⟩
  | .hbm, ⟨3, _⟩ => ⟨S1024x768, .f32⟩
  | .hbm, ⟨4, _⟩ => ⟨S1024x1048, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S32768x768, .f32⟩
  | .hbm, ⟨22, _⟩ => ⟨S32768x1024, .f32⟩
  | .hbm, ⟨23, _⟩ => ⟨S_, .f32⟩
  | .hbm, ⟨24, _⟩ => ⟨S32768, .f32⟩
  | .hbm, ⟨25, _⟩ => ⟨S32768x1, .f32⟩
  | .hbm, ⟨26, _⟩ => ⟨S_, .f32⟩
  | .hbm, ⟨27, _⟩ => ⟨S32768x1, .f32⟩
  | .hbm, ⟨28, _⟩ => ⟨S32768x1, .f32⟩
  | .hbm, ⟨29, _⟩ => ⟨S_, .f32⟩
  | .hbm, ⟨30, _⟩ => ⟨S32768x1, .f32⟩
  | .hbm, ⟨31, _⟩ => ⟨S32768x1, .f32⟩
  | .hbm, ⟨32, _⟩ => ⟨S32768x1, .f32⟩
  | .hbm, ⟨33, _⟩ => ⟨S32768x1024, .f32⟩
  | .hbm, ⟨34, _⟩ => ⟨S32768x1024, .f32⟩
  | .hbm, ⟨35, _⟩ => ⟨S1x1024, .f32⟩
  | .hbm, ⟨36, _⟩ => ⟨S32768x1024, .f32⟩
  | .hbm, ⟨37, _⟩ => ⟨S32768x1024, .f32⟩
  | .hbm, ⟨38, _⟩ => ⟨S32768x1048, .f32⟩
  | .hbm, ⟨39, _⟩ => ⟨S32768x512, .f32⟩
  | .hbm, ⟨40, _⟩ => ⟨S32768x24, .f32⟩
  | .hbm, ⟨41, _⟩ => ⟨S32768x512, .f32⟩
  | .hbm, ⟨42, _⟩ => ⟨S32768x256, .f32⟩
  | .hbm, ⟨43, _⟩ => ⟨S2048x16x2x128, .f32⟩
  | .hbm, ⟨44, _⟩ => ⟨S2x2048x16x128, .f32⟩
  | .hbm, ⟨45, _⟩ => ⟨S2x2048x2048, .f32⟩
  | .hbm, ⟨46, _⟩ => ⟨S_, .f32⟩
  | .hbm, ⟨47, _⟩ => ⟨S_, .f32⟩
  | .hbm, ⟨48, _⟩ => ⟨S32768x512, .f32⟩
  | .hbm, ⟨49, _⟩ => ⟨S32768x512, .f32⟩
  | .hbm, ⟨50, _⟩ => ⟨S_, .f32⟩
  | .hbm, ⟨51, _⟩ => ⟨S_, .f32⟩
  | .hbm, ⟨52, _⟩ => ⟨S32768x512, .f32⟩
  | .hbm, ⟨53, _⟩ => ⟨S32768x512, .f32⟩
  | .hbm, ⟨54, _⟩ => ⟨S_, .i32⟩
  | .hbm, ⟨55, _⟩ => ⟨S_, .f32⟩
  | .hbm, ⟨56, _⟩ => ⟨S32768x32, .f32⟩
  | .hbm, ⟨57, _⟩ => ⟨S32768x32, .f32⟩
  | .hbm, ⟨58, _⟩ => ⟨S32768x32, .f32⟩
  | .hbm, ⟨59, _⟩ => ⟨S_, .f32⟩
  | .hbm, ⟨60, _⟩ => ⟨S32768x32, .f32⟩
  | .hbm, ⟨61, _⟩ => ⟨S32768x32, .f32⟩
  | .hbm, ⟨62, _⟩ => ⟨S_, .f32⟩
  | .hbm, ⟨63, _⟩ => ⟨S32768x32, .f32⟩
  | .hbm, ⟨64, _⟩ => ⟨S32768x32, .f32⟩
  | .hbm, ⟨65, _⟩ => ⟨S2x2048x2048, .bf16⟩
  | .hbm, ⟨66, _⟩ => ⟨S32768x512, .f32⟩
  | .hbm, ⟨67, _⟩ => ⟨S32768x512, .bf16⟩
  | .hbm, ⟨68, _⟩ => ⟨S4x8192x512, .f32⟩
  | .hbm, ⟨69, _⟩ => ⟨S4x512x8192, .f32⟩
  | .hbm, ⟨70, _⟩ => ⟨S4x512x8192, .bf16⟩
  | .hbm, ⟨71, _⟩ => ⟨S4x8192x32, .f32⟩
  | .hbm, ⟨72, _⟩ => ⟨S4x32x8192, .f32⟩
  | .hbm, ⟨73, _⟩ => ⟨S32768x512, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_c : Ref sig .tc := ⟨.hbm, 54, rfl⟩
abbrev main_call0_v0 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_cst_8 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩

abbrev nD : Nat := 1
abbrev τ : Topo := Topo.v7x

variable {F : FTy → Type} [FloatOps F]
-- ==== Proof.Consts.lean ====
/-
  The float constants the programs spell, as the extended reals their patterns denote.
-/
module

public import Idealize.ShloMosaic.PureOps.Ideal

@[expose] public section

noncomputable section

namespace Cert.Consts

open Idealize.ShloMosaic

/-- `128.0`, whose root the attention's reference divides by, denotes the real `128`. -/
theorem ofBits_128 : Ideal.ofBits .f32 0x43000000#32 = ((128 : ℝ) : EReal) := by
  simp [Ideal.ofBits, Ideal.ieee, -EReal.coe_mul]; norm_num

/-- Minus infinity, where the row maxima start, denotes the least extended real. -/
theorem ofBits_neg_inf : Ideal.ofBits .f32 0xFF800000#32 = ⊥ := by
  simp [Ideal.ofBits, Ideal.ieee]

/-- `1.0`, in the feed-forward's sigmoid, denotes the real `1`. -/
theorem ofBits_one : Ideal.ofBits .f32 0x3F800000#32 = 1 := by
  simp [Ideal.ofBits, Ideal.ieee, -EReal.coe_mul]; norm_num

/-- `0.0625`, the kernel's factor of the decay's logarithm, denotes `1 / 16`. -/
theorem ofBits_sixteenth : Ideal.ofBits .f32 0x3D800000#32 = ((1 / 16 : ℝ) : EReal) := by
  simp [Ideal.ofBits, Ideal.ieee, -EReal.coe_mul]; norm_num

/-- `16.0`, by which the reference divides that logarithm. -/
theorem ofBits_16 : Ideal.ofBits .f32 0x41800000#32 = ((16 : ℝ) : EReal) := by
  simp [Ideal.ofBits, Ideal.ieee, -EReal.coe_mul]; norm_num

/-- `0.0` denotes zero. -/
theorem ofBits_zero : Ideal.ofBits .f32 0x00000000#32 = 0 := by
  simp [Ideal.ofBits, Ideal.ieee]

end Cert.Consts

end
-- ==== Proof.AttnMath.lean ====
/-
  One query row of one head attending over the memory, over the extended reals: the kernel's form (powers of two, the
  scale and `1 / log 2` folded into one factor) and the reference's (the query divided by `√128`, the exponential
  function) give the same result, whatever the entries.
-/
module

public import proofs.«01_k».proof.Proof.Consts

@[expose] public section

noncomputable section

namespace Cert.AttnMath

open Idealize.ShloMosaic

/-- The kernel's factor: `1 / log 2` times `1 / √128`. -/
def scale : EReal := (((Real.log 2)⁻¹ * (Real.sqrt 128)⁻¹ : ℝ) : EReal)

/-- A head's weighted sum as the kernel forms it: products times `scale`, less their greatest, powers of two,
    divided by their sum. -/
def attendPow2 (q : Fin 128 → EReal) (K : Fin 256 → Fin 128 → EReal) (V : Fin 256 → EReal) : EReal :=
  ∑ s, Ideal.div
      (Ideal.exp2 ((∑ d, q d * K s d) * scale - Finset.univ.fold max ⊥ fun s => (∑ d, q d * K s d) * scale))
      (∑ s, Ideal.exp2 ((∑ d, q d * K s d) * scale - Finset.univ.fold max ⊥ fun s => (∑ d, q d * K s d) * scale))
    * V s

/-- A head's weighted sum as the reference forms it: the softmax of the scaled products, weighing the values. -/
def attend (q : Fin 128 → EReal) (K : Fin 256 → Fin 128 → EReal) (V : Fin 256 → EReal) : EReal :=
  ∑ s, V s * Ideal.div
      (Ideal.exp ((∑ d, Ideal.div (q d) ((Real.sqrt 128 : ℝ) : EReal) * K s d)
        - Finset.univ.fold max ⊥ fun s => ∑ d, Ideal.div (q d) ((Real.sqrt 128 : ℝ) : EReal) * K s d))
      (∑ s, Ideal.exp ((∑ d, Ideal.div (q d) ((Real.sqrt 128 : ℝ) : EReal) * K s d)
        - Finset.univ.fold max ⊥ fun s => ∑ d, Ideal.div (q d) ((Real.sqrt 128 : ℝ) : EReal) * K s d))

/-- A positive real factor comes out of a sum of extended reals. -/
theorem sum_mul_coe {ι : Type*} [Fintype ι] (f : ι → EReal) {r : ℝ} (hr : 0 ≤ r) :
    (∑ i, f i) * (r : EReal) = ∑ i, f i * (r : EReal) := by
  classical
  induction (Finset.univ : Finset ι) using Finset.induction_on with
  | empty => simp
  | insert a s ha ih =>
    rw [Finset.sum_insert ha, Finset.sum_insert ha, ← ih]
    exact EReal.right_distrib_of_nonneg_of_ne_top (EReal.coe_nonneg.mpr hr) (EReal.coe_ne_top r) _ _

/-- A positive real factor comes out of a difference of extended reals. -/
theorem sub_mul_coe (x y : EReal) {r : ℝ} (hr : 0 ≤ r) : (x - y) * (r : EReal) = x * r - y * r := by
  rw [sub_eq_add_neg, EReal.right_distrib_of_nonneg_of_ne_top (EReal.coe_nonneg.mpr hr) (EReal.coe_ne_top r),
    EReal.neg_mul, ← sub_eq_add_neg]

/-- A positive real factor comes out of a greatest element. -/
theorem fold_max_mul_coe {ι : Type*} [Fintype ι] (f : ι → EReal) {r : ℝ} (hr : 0 < r) :
    (Finset.univ.fold max ⊥ fun i => f i * (r : EReal)) = (Finset.univ.fold max ⊥ f) * (r : EReal) := by
  have h := Finset.fold_hom (op := max) (op' := max) (m := fun x : EReal => x * (r : EReal)) (s := Finset.univ) (f := f)
    (b := ⊥) fun x y =>
      Monotone.map_max (f := fun x : EReal => x * (r : EReal)) fun _ _ hxy =>
        mul_le_mul_of_nonneg_right hxy (EReal.coe_nonneg.mpr hr.le)
  rw [← h, EReal.bot_mul_coe_of_pos hr]

/-- Two to the power `y / log 2` is the exponential of `y`. -/
theorem exp2_div_log (y : EReal) : Ideal.exp2 (y * (((Real.log 2)⁻¹ : ℝ) : EReal)) = Ideal.exp y := by
  have hl : (0 : ℝ) < (Real.log 2)⁻¹ := inv_pos.mpr (Real.log_pos (by norm_num))
  induction y using EReal.rec with
  | bot => rw [EReal.bot_mul_coe_of_pos hl, Ideal.exp2_bot, Ideal.exp_bot]
  | top => rw [EReal.top_mul_coe_of_pos hl, Ideal.exp2_top, Ideal.exp_top]
  | coe y =>
    rw [← EReal.coe_mul, Ideal.exp2_coe, Ideal.exp_coe]
    congr 1
    show (2 : ℝ) ^ (y * (Real.log 2)⁻¹) = _
    rw [Real.rpow_def_of_pos (by norm_num)]
    congr 1
    have : Real.log 2 ≠ 0 := (Real.log_pos (by norm_num)).ne'
    field_simp

/-- The kernel's scaled product is the reference's, over `log 2`. -/
theorem score_eq (q k : Fin 128 → EReal) : (∑ d, q d * k d) * scale
    = (∑ d, Ideal.div (q d) ((Real.sqrt 128 : ℝ) : EReal) * k d) * (((Real.log 2)⁻¹ : ℝ) : EReal) := by
  have h128 : Real.sqrt 128 ≠ 0 := (Real.sqrt_pos.mpr (by norm_num)).ne'
  have hs : (0 : ℝ) ≤ (Real.sqrt 128)⁻¹ := inv_nonneg.mpr (Real.sqrt_nonneg _)
  unfold scale
  rw [mul_comm (Real.log 2)⁻¹, EReal.coe_mul, ← mul_assoc, sum_mul_coe _ hs]
  congr 1
  refine Finset.sum_congr rfl fun d _ => ?_
  rw [Ideal.div_coe h128, one_div, mul_right_comm]

/-- The two forms agree. -/
theorem attendPow2_eq (q : Fin 128 → EReal) (K : Fin 256 → Fin 128 → EReal) (V : Fin 256 → EReal) :
    attendPow2 q K V = attend q K V := by
  have hl : (0 : ℝ) < (Real.log 2)⁻¹ := inv_pos.mpr (Real.log_pos (by norm_num))
  unfold attendPow2 attend
  simp only [score_eq]
  rw [fold_max_mul_coe _ hl]
  simp only [← sub_mul_coe _ _ hl.le, exp2_div_log]
  exact Finset.sum_congr rfl fun s _ => mul_comm _ _

end Cert.AttnMath

end
-- ==== Proof.AttnRead.lean ====
/-
  The attention's reference read at an index: the memory's keys and values, one head's weighted sum, and the result.
-/
module

public import proofs.«01_k».proof.Proof.AttnMath
public import proofs.«01_k».proof.Proof.Gen.AttnRefIdeal.Read
public import Idealize.ShloMosaic.Lib.Pointwise

@[expose] public section

set_option maxRecDepth 16384

noncomputable section

namespace Cert.AttnRead

open Idealize.ShloMosaic Cert.AttnMath Cert.AttnRefIdeal Cert.AttnRefIdeal.Gen Cert.AttnRefIdeal.Read

/-- Column `j` of the projection of memory row `s`: the row over its root mean square, times the gain, times the
    projection's column. Columns below 512 are keys, the others values. -/
def memRow (x : Fin 1024 → EReal) (g : Fin 1024 → EReal) (w : Fin 1024 → EReal) : EReal :=
  ∑ k, x k * Ideal.rsqrt (Ideal.div (∑ k, x k * x k) (Ideal.ofBits .f32 0x44800000#32) + Ideal.ofBits .f32 0x358637BD#32)
    * g k * w k

variable (x0 x1 : (⟨S32768x512, .bf16⟩ : BufTy).Contents (Elt Ideal)) (x2 : (⟨S4x256x1024, .f32⟩ : BufTy).Contents (Elt Ideal))
  (x3 : (⟨S1024, .f32⟩ : BufTy).Contents (Elt Ideal)) (x4 x5 : (⟨S1024x1024, .f32⟩ : BufTy).Contents (Elt Ideal))
  (x6 : (⟨S32768x1024, .f32⟩ : BufTy).Contents (Elt Ideal))

/-- The projected memory of batch `b`, at row `s` and column `j`. -/
def memKV (b : Fin 4) (s : Fin 256) (j : Fin 1024) : EReal :=
  memRow (fun k => x2 (ix3 b s k)) (fun k => x3 (ix1 k)) (fun k => x4 (ix2 k j))

theorem kv_at (b : Fin 4) (s : Fin 256) (j : Fin 1024) : val_main_v13 (F := Ideal) x2 x3 x4 (ix3 b s j) = memKV x2 x3 x4 b s j := by
  pointwise [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  rfl

theorem key_at (b : Fin 4) (s : Fin 256) (h : Fin 4) (d : Fin 128) : val_main_v16 (F := Ideal) x2 x3 x4 (ix4 b s h d)
    = memKV x2 x3 x4 b s ⟨h.val * 128 + d.val, by omega⟩ := by
  rw [← kv_at]
  pointwise [val_main_v16, val_main_v15, val_main_v14]

theorem value_at (b : Fin 4) (s : Fin 256) (h : Fin 4) (d : Fin 128) : val_main_v18 (F := Ideal) x2 x3 x4 (ix4 b s h d)
    = memKV x2 x3 x4 b s ⟨512 + h.val * 128 + d.val, by omega⟩ := by
  rw [← kv_at]
  pointwise [val_main_v18, val_main_v17, val_main_v14]

theorem query_at (b : Fin 4) (t : Fin 8192) (h : Fin 4) (d : Fin 128) : val_main_v24 (F := Ideal) x1 (ix4 b t h d)
    = Ideal.div (x1 (ix2 ⟨b.val * 8192 + t.val, by omega⟩ ⟨h.val * 128 + d.val, by omega⟩)) ((Real.sqrt 128 : ℝ) : EReal) := by
  pointwise [val_main_v24, val_main_v23, val_main_v22, val_main_v21, val_main_v20, val_main_v19, val_main_cst_2]
  rw [Consts.ofBits_128, Ideal.sqrt_coe]
  simp only [show ¬(128 : ℝ) < 0 from by norm_num, ↓reduceIte]

theorem score_at (b : Fin 4) (t : Fin 8192) (h : Fin 4) (s : Fin 256) :
    val_main_v25 (F := Ideal) x1 x2 x3 x4 (ix4 b h t s) = ∑ d : Fin 128,
      Ideal.div (x1 (ix2 ⟨b.val * 8192 + t.val, by omega⟩ ⟨h.val * 128 + d.val, by omega⟩)) ((Real.sqrt 128 : ℝ) : EReal)
        * memKV x2 x3 x4 b s ⟨h.val * 128 + d.val, by omega⟩ := by
  pointwise [val_main_v25]
  simp only [query_at, key_at]

/-- A maximum over the last of four axes, at an index: the greatest along that axis, from the initial value up. -/
theorem max_last_at {n0 n1 n2 n3 : Nat} {u : Shape} (x : (⟨4, ![n0, n1, n2, n3]⟩ : Shape).Idx → Ideal .f32) (init : u.Idx → Ideal .f32)
    (h : (⟨4, ![n0, n1, n2, n3]⟩ : Shape).ReducesTo [3] ⟨3, ![n0, n1, n2]⟩) (hu : 0 < u.numel)
    (a : Fin n0) (b : Fin n1) (c : Fin n2) :
    Host.reduce FloatOps.maximumf x init h hu (ix3 a b c)
      = Finset.univ.fold max (init (Shape.Idx.first hu)) fun k : Fin n3 => x (ix4 a b c k) := by
  rw [Host.reduce_eq_fold, Shape.ReducesTo.fold_fiber_r4_a3]
  rfl

theorem max_at (b : Fin 4) (t : Fin 8192) (h : Fin 4) :
    val_main_v26 (F := Ideal) x1 x2 x3 x4 (ix3 b h t)
      = Finset.univ.fold max (val_main_cst_3 (F := Ideal) (Shape.Idx.first h_S_)) fun s : Fin 256 => val_main_v25 (F := Ideal) x1 x2 x3 x4 (ix4 b h t s) := by
  unfold val_main_v26
  generalize val_main_v25 (F := Ideal) x1 x2 x3 x4 = y
  exact max_last_at y (val_main_cst_3 (F := Ideal)) reducesTo_S4x4x8192x256_S4x4x8192_d3 h_S_ b h t

theorem top_at (b : Fin 4) (t : Fin 8192) (h : Fin 4) :
    val_main_v28 (F := Ideal) x1 x2 x3 x4 (ix3 b h t)
      = Finset.univ.fold max ⊥ fun s : Fin 256 => val_main_v25 (F := Ideal) x1 x2 x3 x4 (ix4 b h t s) := by
  rw [val_main_v28_apply, val_main_v27_apply, val_main_cst_4_apply, max_at, val_main_cst_3_apply, Ideal.ofBits_def,
    Consts.ofBits_neg_inf, Ideal.maximumf_def, max_eq_right bot_le]

theorem exp_at (b : Fin 4) (t : Fin 8192) (h : Fin 4) (s : Fin 256) :
    val_main_v32 (F := Ideal) x1 x2 x3 x4 (ix4 b h t s) = Ideal.exp (val_main_v25 (F := Ideal) x1 x2 x3 x4 (ix4 b h t s)
      - val_main_v28 (F := Ideal) x1 x2 x3 x4 (ix3 b h t)) := by
  pointwise [val_main_v32, val_main_v31, val_main_v30, val_main_v29]

theorem weight_at (b : Fin 4) (t : Fin 8192) (h : Fin 4) (s : Fin 256) :
    val_main_v36 (F := Ideal) x1 x2 x3 x4 (ix4 b h t s) = Ideal.div (val_main_v32 (F := Ideal) x1 x2 x3 x4 (ix4 b h t s))
      (∑ s : Fin 256, val_main_v32 (F := Ideal) x1 x2 x3 x4 (ix4 b h t s)) := by
  pointwise [val_main_v36, val_main_v35, val_main_v34, val_main_v33, val_main_cst_5]

/-- Column `j` of the attention's output at row `t` of batch `b`: head `j / 128` attends over the memory. -/
def headOut (b : Fin 4) (t : Fin 8192) (j : Fin 512) : EReal :=
  attend (fun d => x1 (ix2 ⟨b.val * 8192 + t.val, by omega⟩ ⟨j.val / 128 * 128 + d.val, by omega⟩))
    (fun s d => memKV x2 x3 x4 b s ⟨j.val / 128 * 128 + d.val, by omega⟩)
    (fun s => memKV x2 x3 x4 b s ⟨512 + j.val, by omega⟩)

theorem head_at (b : Fin 4) (t : Fin 8192) (j : Fin 512) :
    val_main_v39 (F := Ideal) x1 x2 x3 x4 (ix3 b t j) = headOut x1 x2 x3 x4 b t j := by
  pointwise [val_main_v39, val_main_v38, val_main_v37]
  simp only [value_at, weight_at, exp_at, top_at, score_at]
  unfold headOut attend
  have hj : 512 + j.val / 128 * 128 + j.val % 128 = 512 + j.val := by omega
  simp only [hj]

/-- The result at row `n` and column `j`: the residual, the given columns through the upper half of the output
    projection, and the attention's through the lower half. -/
def attnOut (n : Fin 32768) (j : Fin 1024) : EReal :=
  x6 (ix2 n j) + ((∑ k : Fin 512, x0 (ix2 n k) * x5 (ix2 ⟨k.val, by omega⟩ j))
    + ∑ k : Fin 512, headOut x1 x2 x3 x4 ⟨n.val / 8192, by omega⟩ ⟨n.val % 8192, by omega⟩ k * x5 (ix2 ⟨512 + k.val, by omega⟩ j))

/-- What the reference returns, at an index. -/
theorem result_at (n : Fin 32768) (j : Fin 1024) :
    val_main_v46 (F := Ideal) x0 x1 x2 x3 x4 x5 x6 (ix2 n j) = attnOut x0 x1 x2 x3 x4 x5 x6 n j := by
  pointwise [val_main_v46, val_main_v45, val_main_v44, val_main_v43, val_main_v42, val_main_v41, val_main_v40]
  simp only [head_at]
  rfl

end Cert.AttnRead

end
-- ==== Proof.AttnBlock.lean ====
/-
  What the attention kernel's body leaves at one grid point, as a term over the point's blocks: the projected memory in
  the scratch (computed at a batch's first tile, kept at the others), and the output block.
-/
module

public import proofs.«01_k».proof.Proof.Gen.AttnIdeal.Value
public import Idealize.ShloMosaic.Lib.Pipeline.Value
public import Idealize.ShloMosaic.Lib.Tactic

@[expose] public section

set_option maxRecDepth 16384

noncomputable section

namespace Cert.AttnIdeal.Block

open Cert.AttnIdeal Cert.AttnIdeal.Gen Idealize.ShloMosaic Idealize.ShloMosaic.TcCoe Idealize.SL.Sem

variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl

/-- The output block of a tile: the given columns `x0`, the queries `x1`, the output projection `x5`, the residual `x6`,
    and the projected memory `M`. -/
def outBlock (x0 x1 : Vec F S1024x512 .bf16) (x5 : Vec F S1024x1024 .bf16) (x6 : Vec F S1024x1024 .f32)
    (M : Vec F S256x1024 .bf16) : Vec F S1024x1024 .f32 :=
  k0_pay1 x0
    (k0_pay7 (k0_pay6 (View.ld x1 (Rect.unit ![0, 0] ![1024, 128] inb_S1024x512_S1024x128_0_0))
        (View.ld M (Rect.unit ![0, 0] ![256, 128] inb_S256x1024_S256x128_0_0)))
      (View.ld M (Rect.unit ![0, 512] ![256, 128] inb_S256x1024_S256x128_0_512)))
    (k0_pay8 (k0_pay3 (View.ld x1 (Rect.unit ![0, 128] ![1024, 128] inb_S1024x512_S1024x128_0_128))
        (View.ld M (Rect.unit ![0, 128] ![256, 128] inb_S256x1024_S256x128_0_128)))
      (View.ld M (Rect.unit ![0, 640] ![256, 128] inb_S256x1024_S256x128_0_640)))
    (k0_pay9 (k0_pay4 (View.ld x1 (Rect.unit ![0, 256] ![1024, 128] inb_S1024x512_S1024x128_0_256))
        (View.ld M (Rect.unit ![0, 256] ![256, 128] inb_S256x1024_S256x128_0_256)))
      (View.ld M (Rect.unit ![0, 768] ![256, 128] inb_S256x1024_S256x128_0_768)))
    (k0_pay10 (k0_pay5 (View.ld x1 (Rect.unit ![0, 384] ![1024, 128] inb_S1024x512_S1024x128_0_384))
        (View.ld M (Rect.unit ![0, 384] ![256, 128] inb_S256x1024_S256x128_0_384))))
    (View.ld M (Rect.unit ![0, 896] ![256, 128] inb_S256x1024_S256x128_0_896)) x6 x5

/-- A load of part of a scratch that one store has filled reads that part of what was stored. -/
theorem readCov_whole (v : View sig .tc .vmem S256x1024 .bf16) (w : Vec F S256x1024 .bf16) (r : Rect S256x1024) :
    v.readCov (Val := Elt F) [⟨Rect.unit ![0, 0] ![256, 1024] inb_S256x1024_S256x1024_0_0, w⟩] r.toLoadRect = View.ld w r := by
  rw [View.readCov_eq_canon_ld _ _ _ fun y => ⟨_, List.mem_singleton_self _, by
    rw [Rect.mem_set_unit]
    intro a
    have h := (y a).isLt
    match a with
    | ⟨0, _⟩ => exact ⟨Nat.zero_le _, by simpa using h⟩
    | ⟨1, _⟩ => exact ⟨Nat.zero_le _, by simpa using h⟩⟩, View.canon_unit_zero hz2]

/-- Away from a batch's first tile the output block is formed from the projected memory found in the scratch. -/
theorem out_B (c : Dev nD) (i : grid0.Coords)
    (a2 : Memref sig .tc .vmem S1024x512 .bf16) (h2 : a2.IsWhole) (a3 : Memref sig .tc .vmem S1024x512 .bf16) (h3 : a3.IsWhole) (a4 : Memref sig .tc .vmem S1x256x1024 .f32) (h4 : a4.IsWhole) (a5 : Memref sig .tc .vmem S1x1024 .f32) (h5 : a5.IsWhole) (a6 : Memref sig .tc .vmem S1024x1024 .bf16) (h6 : a6.IsWhole) (a7 : Memref sig .tc .vmem S1024x1024 .bf16) (h7 : a7.IsWhole) (a8 : Memref sig .tc .vmem S1024x1024 .f32) (h8 : a8.IsWhole) (a9 : Memref sig .tc .vmem S1024x1024 .f32) (h9 : a9.IsWhole) (a10 : Memref sig .tc .vmem S256x1024 .bf16) (h10 : a10.IsWhole)
    (hc : ¬cond0_0 i) (x0 x1 : Vec F S1024x512 .bf16) (x2 : Vec F S1x256x1024 .f32) (x3 : Vec F S1x1024 .f32) (x4 x5 : Vec F S1024x1024 .bf16)
    (x6 : Vec F S1024x1024 .f32) (M : Vec F S256x1024 .bf16) :
    out0_B_7 c i a2 h2 a3 h3 a4 h4 a5 h5 a6 h6 a7 h7 a8 h8 a9 h9 a10 h10 hc x0 x1 x2 x3 x4 x5 x6 M
      = outBlock x0 x1 x5 x6 M := by
  unfold out0_B_7
  rw [View.read_writes_eq_canon _ _ _ (cover0_B_7 c i a2 h2 a3 h3 a4 h4 a5 h5 a6 h6 a7 h7 a8 h8 a9 h9 a10 h10 hc
    x0 x1 x2 x3 x4 x5 x6 M)]
  unfold kernelRun0_B
  dsimp only
  sl_unfold_words
  rw [View.canon_unit_zero hz2]
  simp only [View.readAt_eq_ld, h2.read_unread, h3.read_unread, h7.read_unread, h8.read_unread, h10.read_unread,
    View.ld_unit_zero (S := S1024x512) hz2, View.ld_unit_zero (S := S1024x1024) hz2]
  rfl

/-- At a batch's first tile the scratch is left at the projection of the batch's memory. -/
theorem scratch_A (c : Dev nD) (i : grid0.Coords)
    (a2 : Memref sig .tc .vmem S1024x512 .bf16) (h2 : a2.IsWhole) (a3 : Memref sig .tc .vmem S1024x512 .bf16) (h3 : a3.IsWhole) (a4 : Memref sig .tc .vmem S1x256x1024 .f32) (h4 : a4.IsWhole) (a5 : Memref sig .tc .vmem S1x1024 .f32) (h5 : a5.IsWhole) (a6 : Memref sig .tc .vmem S1024x1024 .bf16) (h6 : a6.IsWhole) (a7 : Memref sig .tc .vmem S1024x1024 .bf16) (h7 : a7.IsWhole) (a8 : Memref sig .tc .vmem S1024x1024 .f32) (h8 : a8.IsWhole) (a9 : Memref sig .tc .vmem S1024x1024 .f32) (h9 : a9.IsWhole) (a10 : Memref sig .tc .vmem S256x1024 .bf16) (h10 : a10.IsWhole)
    (hc : cond0_0 i) (x0 x1 : Vec F S1024x512 .bf16) (x2 : Vec F S1x256x1024 .f32) (x3 : Vec F S1x1024 .f32) (x4 x5 : Vec F S1024x1024 .bf16)
    (x6 : Vec F S1024x1024 .f32) :
    sout0_A_0 c i a2 h2 a3 h3 a4 h4 a5 h5 a6 h6 a7 h7 a8 h8 a9 h9 a10 h10 hc x0 x1 x2 x3 x4 x5 x6
      = k0_pay2 x2 x3 x4 := by
  unfold sout0_A_0
  rw [View.read_writes_eq_canon _ _ _ (scover0_A_0 c i a2 h2 a3 h3 a4 h4 a5 h5 a6 h6 a7 h7 a8 h8 a9 h9 a10 h10 hc
    x0 x1 x2 x3 x4 x5 x6)]
  unfold kernelRun0_A
  dsimp only
  sl_unfold_words
  rw [View.canon_unit_zero hz2]
  simp only [View.readAt_eq_ld, h4.read_unread, h5.read_unread, h6.read_unread, View.ld_unit_zero (S := S1024x1024) hz2,
    View.ld_unit_zero (S := S1x1024) hz2, View.ld_unit_zero (S := S1x256x1024) hz3]

/-- At a batch's first tile the output block is formed from that projection. -/
theorem out_A (c : Dev nD) (i : grid0.Coords)
    (a2 : Memref sig .tc .vmem S1024x512 .bf16) (h2 : a2.IsWhole) (a3 : Memref sig .tc .vmem S1024x512 .bf16) (h3 : a3.IsWhole) (a4 : Memref sig .tc .vmem S1x256x1024 .f32) (h4 : a4.IsWhole) (a5 : Memref sig .tc .vmem S1x1024 .f32) (h5 : a5.IsWhole) (a6 : Memref sig .tc .vmem S1024x1024 .bf16) (h6 : a6.IsWhole) (a7 : Memref sig .tc .vmem S1024x1024 .bf16) (h7 : a7.IsWhole) (a8 : Memref sig .tc .vmem S1024x1024 .f32) (h8 : a8.IsWhole) (a9 : Memref sig .tc .vmem S1024x1024 .f32) (h9 : a9.IsWhole) (a10 : Memref sig .tc .vmem S256x1024 .bf16) (h10 : a10.IsWhole)
    (hc : cond0_0 i) (x0 x1 : Vec F S1024x512 .bf16) (x2 : Vec F S1x256x1024 .f32) (x3 : Vec F S1x1024 .f32) (x4 x5 : Vec F S1024x1024 .bf16)
    (x6 : Vec F S1024x1024 .f32) :
    out0_A_7 c i a2 h2 a3 h3 a4 h4 a5 h5 a6 h6 a7 h7 a8 h8 a9 h9 a10 h10 hc x0 x1 x2 x3 x4 x5 x6
      = outBlock x0 x1 x5 x6 (k0_pay2 x2 x3 x4) := by
  unfold out0_A_7
  rw [View.read_writes_eq_canon _ _ _ (cover0_A_7 c i a2 h2 a3 h3 a4 h4 a5 h5 a6 h6 a7 h7 a8 h8 a9 h9 a10 h10 hc
    x0 x1 x2 x3 x4 x5 x6)]
  unfold kernelRun0_A
  dsimp only
  sl_unfold_words
  rw [View.canon_unit_zero hz2]
  simp only [View.readAt_eq_ld, h2.read_unread, h3.read_unread, h4.read_unread, h5.read_unread, h6.read_unread, h7.read_unread,
    h8.read_unread, View.ld_unit_zero (S := S1024x512) hz2, View.ld_unit_zero (S := S1024x1024) hz2,
    View.ld_unit_zero (S := S1x1024) hz2, View.ld_unit_zero (S := S1x256x1024) hz3, readCov_whole]
  rfl

end Cert.AttnIdeal.Block

end
-- ==== Proof.AttnBlockAt.lean ====
/-
  The attention kernel's output block and its projected memory, read at an index, over the extended reals.
-/
module

public import proofs.«01_k».proof.Proof.AttnRead
public import proofs.«01_k».proof.Proof.AttnBlock
public import Idealize.ShloMosaic.Lib.Pointwise

@[expose] public section

set_option maxRecDepth 16384

noncomputable section

namespace Cert.AttnIdeal.Block

open Cert.AttnIdeal Cert.AttnIdeal.Gen Idealize.ShloMosaic Cert.AttnMath

/-- The named factor is the real number it stands for. -/
theorem named_scale : (Named.named (F := Ideal) (φ := .f32) κ "scale_log2e" 0x3E0293EE#32 : EReal) = scale :=
  IdealRules.named_const.ideal_named_scalar _ _ _ _ rfl

/-- The projected memory of a block, at row `s` and column `j`. -/
theorem memory_at (x2 : Vec Ideal S1x256x1024 .f32) (x3 : Vec Ideal S1x1024 .f32) (x4 : Vec Ideal S1024x1024 .bf16)
    (s : Fin 256) (j : Fin 1024) : k0_pay2 x2 x3 x4 (ix2 s j)
    = AttnRead.memRow (fun k => x2 (ix3 0 s k)) (fun k => x3 (ix2 0 k)) (fun k => x4 (ix2 k j)) := by
  pointwise [k0_pay2]
  rfl

/-- Head 0, from the queries' block and the keys' and values' blocks. -/
theorem head0_at (q : Vec Ideal S1024x128 .bf16) (K V : Vec Ideal S256x128 .bf16) (r : Fin 1024) (d : Fin 128) :
    k0_pay7 (k0_pay6 q K) V (ix2 r d)
      = attend (fun d => q (ix2 r d)) (fun s d => K (ix2 s d)) (fun s => V (ix2 s d)) := by
  rw [← attendPow2_eq]
  pointwise [k0_pay7, k0_pay6]
  simp only [Consts.ofBits_neg_inf, named_scale]
  rfl

/-- Head 1. -/
theorem head1_at (q : Vec Ideal S1024x128 .bf16) (K V : Vec Ideal S256x128 .bf16) (r : Fin 1024) (d : Fin 128) :
    k0_pay8 (k0_pay3 q K) V (ix2 r d)
      = attend (fun d => q (ix2 r d)) (fun s d => K (ix2 s d)) (fun s => V (ix2 s d)) := by
  rw [← attendPow2_eq]
  pointwise [k0_pay8, k0_pay3]
  simp only [Consts.ofBits_neg_inf, named_scale]
  rfl

/-- Head 2. -/
theorem head2_at (q : Vec Ideal S1024x128 .bf16) (K V : Vec Ideal S256x128 .bf16) (r : Fin 1024) (d : Fin 128) :
    k0_pay9 (k0_pay4 q K) V (ix2 r d)
      = attend (fun d => q (ix2 r d)) (fun s d => K (ix2 s d)) (fun s => V (ix2 s d)) := by
  rw [← attendPow2_eq]
  pointwise [k0_pay9, k0_pay4]
  simp only [Consts.ofBits_neg_inf, named_scale]
  rfl

/-- Head 3, its weighted sum written out. -/
theorem head3_at (q : Vec Ideal S1024x128 .bf16) (K V : Vec Ideal S256x128 .bf16) (r : Fin 1024) (d : Fin 128) :
    (∑ s : Fin 256, k0_pay10 (k0_pay5 q K) (ix2 r s) * V (ix2 s d))
      = attend (fun d => q (ix2 r d)) (fun s d => K (ix2 s d)) (fun s => V (ix2 s d)) := by
  rw [← attendPow2_eq]
  pointwise [k0_pay10, k0_pay5]
  simp only [Consts.ofBits_neg_inf, named_scale]
  rfl

/-- Column `j` of the attention's output in a block's row `r`: head `j / 128` attends over the projected memory `M`. -/
def headBlock (x1 : Vec Ideal S1024x512 .bf16) (M : Vec Ideal S256x1024 .bf16) (r : Fin 1024) (j : Fin 512) : EReal :=
  attend (fun d => x1 (ix2 r ⟨j.val / 128 * 128 + d.val, by omega⟩))
    (fun s d => M (ix2 s ⟨j.val / 128 * 128 + d.val, by omega⟩))
    (fun s => M (ix2 s ⟨512 + j.val, by omega⟩))

/-- The heads' blocks joined to the given columns and projected, plus the residual, at an index: the lower half of the
    projection takes whatever the four heads' columns hold. -/
theorem project_at (x0 : Vec Ideal S1024x512 .bf16) (v36 v49 v62 : FVec Ideal S1024x128 .bf16) (v71 : FVec Ideal S1024x256 .f32)
    (v72 : Vec Ideal S256x128 .bf16) (x6 : Vec Ideal S1024x1024 .f32) (x5 : Vec Ideal S1024x1024 .bf16) (H : Fin 512 → EReal)
    (r c : Fin 1024)
    (h0 : ∀ d : Fin 128, v36 (ix2 r d) = H ⟨d.val, by omega⟩) (h1 : ∀ d : Fin 128, v49 (ix2 r d) = H ⟨128 + d.val, by omega⟩)
    (h2 : ∀ d : Fin 128, v62 (ix2 r d) = H ⟨256 + d.val, by omega⟩)
    (h3 : ∀ d : Fin 128, (∑ s : Fin 256, v71 (ix2 r s) * v72 (ix2 s d)) = H ⟨384 + d.val, by omega⟩) :
    k0_pay1 x0 v36 v49 v62 v71 v72 x6 x5 (ix2 r c) = x6 (ix2 r c) + ((∑ k : Fin 512, x0 (ix2 r k) * x5 (ix2 ⟨k.val, by omega⟩ c))
      + ∑ k : Fin 512, H k * x5 (ix2 ⟨512 + k.val, by omega⟩ c)) := by
  pointwise [k0_pay1]
  congr 1
  rw [Fin.sum_univ_two_halves 512 512 rfl]
  congr 1
  refine Finset.sum_congr rfl fun k _ => ?_
  congr 1
  have hk := k.isLt
  simp only [h0, h1, h2, h3]
  rw [dif_neg (by simp)]
  split_ifs <;> exact congrArg H (Fin.ext (by simp at * <;> omega))

/-- The output block at an index. -/
theorem outBlock_at (x0 x1 : Vec Ideal S1024x512 .bf16) (x5 : Vec Ideal S1024x1024 .bf16) (x6 : Vec Ideal S1024x1024 .f32)
    (M : Vec Ideal S256x1024 .bf16) (r c : Fin 1024) :
    outBlock x0 x1 x5 x6 M (ix2 r c) = x6 (ix2 r c) + ((∑ k : Fin 512, x0 (ix2 r k) * x5 (ix2 ⟨k.val, by omega⟩ c))
      + ∑ k : Fin 512, headBlock x1 M r k * x5 (ix2 ⟨512 + k.val, by omega⟩ c)) := by
  have part : ∀ (o v : Nat) (d : Fin 128) (k : Fin 512) (hk : k.val = o + d.val) (ho : o % 128 = 0) (hv : v = 512 + o)
      (q : Vec Ideal S1024x128 .bf16) (K V : Vec Ideal S256x128 .bf16)
      (hq : ∀ d : Fin 128, q (ix2 r d) = x1 (ix2 r ⟨o + d.val, by omega⟩))
      (hK : ∀ (s : Fin 256) (d : Fin 128), K (ix2 s d) = M (ix2 s ⟨o + d.val, by omega⟩))
      (hV : ∀ (s : Fin 256), V (ix2 s d) = M (ix2 s ⟨v + d.val, by omega⟩)),
      attend (fun d => q (ix2 r d)) (fun s d => K (ix2 s d)) (fun s => V (ix2 s d)) = headBlock x1 M r k := by
    intro o v d k hk ho hv q K V hq hK hV
    unfold headBlock
    have e : k.val / 128 * 128 = o := by have := d.isLt; omega
    have e' : 512 + k.val = v + d.val := by omega
    simp only [hq, hK, hV, e, e']
  unfold outBlock
  refine project_at _ _ _ _ _ _ _ _ (headBlock x1 M r) r c (fun d => ?_) (fun d => ?_) (fun d => ?_) (fun d => ?_)
  · rw [head0_at]
    exact part 0 512 d _ (by simp) rfl rfl _ _ _ (fun d => by pointwise []) (fun s d => by pointwise []) (fun s => by pointwise [])
  · rw [head1_at]
    exact part 128 640 d _ rfl rfl rfl _ _ _ (fun d => by pointwise []) (fun s d => by pointwise []) (fun s => by pointwise [])
  · rw [head2_at]
    exact part 256 768 d _ rfl rfl rfl _ _ _ (fun d => by pointwise []) (fun s d => by pointwise []) (fun s => by pointwise [])
  · rw [head3_at]
    exact part 384 896 d _ rfl rfl rfl _ _ _ (fun d => by pointwise []) (fun s d => by pointwise []) (fun s => by pointwise [])

end Cert.AttnIdeal.Block

end
-- ==== Proof.AttnValue.lean ====
/-
  What the attention kernel's output array holds: at every index, the plain attention of the launch arguments.
-/
module

public import proofs.«01_k».proof.Proof.AttnBlockAt
public import proofs.«01_k».proof.Proof.Gen.AttnIdeal.Value
public import Idealize.ShloMosaic.Lib.StableHlo.ReadAt

@[expose] public section

set_option maxRecDepth 16384

noncomputable section

namespace Cert.AttnIdeal.Blocks

open Cert.AttnIdeal Cert.AttnIdeal.Gen Cert.AttnIdeal.Block Cert.AttnIdeal.Value Idealize.ShloMosaic Idealize.ShloMosaic.TcCoe Cert.AttnMath

variable (m : (ℓ : Loc nD τ sig) → Buf (Elt Ideal) ℓ) (c : Dev nD)

/-- The launch arguments, as arrays. -/
abbrev arg0 : S32768x512.Idx → EReal := m ((c : Thread nD τ).loc main_arg0)
abbrev arg1 : S32768x512.Idx → EReal := m ((c : Thread nD τ).loc main_arg1)
abbrev arg2 : S4x256x1024.Idx → EReal := m ((c : Thread nD τ).loc main_arg2)
abbrev arg3 : S1024.Idx → EReal := m ((c : Thread nD τ).loc main_arg3)
abbrev arg4 : S1024x1024.Idx → EReal := m ((c : Thread nD τ).loc main_arg4)
abbrev arg5 : S1024x1024.Idx → EReal := m ((c : Thread nD τ).loc main_arg5)
abbrev arg6 : S32768x1024.Idx → EReal := m ((c : Thread nD τ).loc main_arg6)

/-- Where the windows' blocks lie at a point, decided over the grid. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 8 ∧ win0_2.index t (1 : Fin 3) = 0 ∧ win0_2.index t (2 : Fin 3) = 0
    ∧ win0_6.index t (0 : Fin 2) = t.val ∧ win0_6.index t (1 : Fin 2) = 0 :=
  (by decide +kernel : ∀ t : Fin grid0.N, _)

theorem index_whole : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

theorem point_lt (t : Fin cfg0.N) : t.val < 32 := lt_of_lt_of_eq t.isLt N_0

/-- The recurrence output's block. -/
theorem block0 (t : Fin cfg0.N) (r : Fin 1024) (k : Fin 512) :
    iblk (F := Ideal) m c 0 t (ix2 r k) = arg0 m c (ix2 ⟨t.val * 1024 + r.val, by have := point_lt t; omega⟩ k) := by
  obtain ⟨e0, e1, -⟩ := index_facts t
  unfold iblk; rw [View.read_apply]
  show V (F := Ideal) m c main_arg0 _ = _
  rw [V_main_arg0]
  unfold arg0
  congr 1
  funext a; apply Fin.ext
  match a with
  | ⟨0, _⟩ => show win0_0.index t (0 : Fin 2) * 1024 + 1 * r.val = _; rw [e0, one_mul]; rfl
  | ⟨1, _⟩ => show win0_0.index t (1 : Fin 2) * 512 + 1 * k.val = _; rw [e1, one_mul, zero_mul, zero_add]; rfl

/-- The queries' block. -/
theorem block1 (t : Fin cfg0.N) (r : Fin 1024) (k : Fin 512) :
    iblk (F := Ideal) m c 1 t (ix2 r k) = arg1 m c (ix2 ⟨t.val * 1024 + r.val, by have := point_lt t; omega⟩ k) := by
  obtain ⟨-, -, e0, e1, -⟩ := index_facts t
  unfold iblk; rw [View.read_apply]
  show V (F := Ideal) m c main_arg1 _ = _
  rw [V_main_arg1]
  unfold arg1
  congr 1
  funext a; apply Fin.ext
  match a with
  | ⟨0, _⟩ => show win0_1.index t (0 : Fin 2) * 1024 + 1 * r.val = _; rw [e0, one_mul]; rfl
  | ⟨1, _⟩ => show win0_1.index t (1 : Fin 2) * 512 + 1 * k.val = _; rw [e1, one_mul, zero_mul, zero_add]; rfl

/-- The memory's block: the batch's memory. -/
theorem block2 (t : Fin cfg0.N) (z : Fin 1) (s : Fin 256) (k : Fin 1024) :
    iblk (F := Ideal) m c 2 t (ix3 z s k) = arg2 m c (ix3 ⟨t.val / 8, by have := point_lt t; omega⟩ s k) := by
  obtain ⟨-, -, -, -, e0, e1, e2, -⟩ := index_facts t
  unfold iblk; rw [View.read_apply]
  show V (F := Ideal) m c main_arg2 _ = _
  rw [V_main_arg2]
  unfold arg2
  congr 1
  funext a; apply Fin.ext
  match a with
  | ⟨0, _⟩ => show win0_2.index t (0 : Fin 3) * 1 + 1 * z.val = _; rw [e0]; simp
  | ⟨1, _⟩ => show win0_2.index t (1 : Fin 3) * 256 + 1 * s.val = _; rw [e1, one_mul, zero_mul, zero_add]; rfl
  | ⟨2, _⟩ => show win0_2.index t (2 : Fin 3) * 1024 + 1 * k.val = _; rw [e2, one_mul, zero_mul, zero_add]; rfl

/-- The residual's block. -/
theorem block6 (t : Fin cfg0.N) (r k : Fin 1024) :
    iblk (F := Ideal) m c 6 t (ix2 r k) = arg6 m c (ix2 ⟨t.val * 1024 + r.val, by have := point_lt t; omega⟩ k) := by
  obtain ⟨-, -, -, -, -, -, -, e0, e1⟩ := index_facts t
  unfold iblk; rw [View.read_apply]
  show V (F := Ideal) m c main_arg6 _ = _
  rw [V_main_arg6]
  unfold arg6
  congr 1
  funext a; apply Fin.ext
  match a with
  | ⟨0, _⟩ => show win0_6.index t (0 : Fin 2) * 1024 + 1 * r.val = _; rw [e0, one_mul]; rfl
  | ⟨1, _⟩ => show win0_6.index t (1 : Fin 2) * 1024 + 1 * k.val = _; rw [e1, one_mul, zero_mul, zero_add]; rfl

/-- The norm's gain, reshaped to one row. -/
theorem gain_at (z : Fin 1) (k : Fin 1024) : V (F := Ideal) m c main_v0 (ix2 z k) = arg3 m c (ix1 k) := by
  unfold V arg3
  after_reads_at
  try rfl

/-- The memory's weights, rounded: over the extended reals, the weights. -/
theorem wmem_at (k j : Fin 1024) : V (F := Ideal) m c main_v1 (ix2 k j) = arg4 m c (ix2 k j) := by
  unfold V arg4
  after_reads_at
  try rfl

/-- The output projection's weights, rounded. -/
theorem wout_at (k j : Fin 1024) : V (F := Ideal) m c main_v2 (ix2 k j) = arg5 m c (ix2 k j) := by
  unfold V arg5
  after_reads_at
  try rfl

theorem block3 (t : Fin cfg0.N) (z : Fin 1) (k : Fin 1024) : iblk (F := Ideal) m c 3 t (ix2 z k) = arg3 m c (ix1 k) := by
  obtain ⟨e0, e1, -⟩ := index_whole t
  rw [← gain_at m c z k]
  unfold iblk; rw [View.read_apply]
  show V (F := Ideal) m c main_v0 _ = _
  congr 1
  funext a; apply Fin.ext
  match a with
  | ⟨0, _⟩ => show win0_3.index t (0 : Fin 2) * 1 + 1 * z.val = z.val; rw [e0, one_mul, zero_mul, zero_add]
  | ⟨1, _⟩ => show win0_3.index t (1 : Fin 2) * 1024 + 1 * k.val = k.val; rw [e1, one_mul, zero_mul, zero_add]

theorem block4 (t : Fin cfg0.N) (k j : Fin 1024) : iblk (F := Ideal) m c 4 t (ix2 k j) = arg4 m c (ix2 k j) := by
  obtain ⟨-, -, e0, e1, -⟩ := index_whole t
  rw [← wmem_at m c k j]
  unfold iblk; rw [View.read_apply]
  show V (F := Ideal) m c main_v1 _ = _
  congr 1
  funext a; apply Fin.ext
  match a with
  | ⟨0, _⟩ => show win0_4.index t (0 : Fin 2) * 1024 + 1 * k.val = k.val; rw [e0, one_mul, zero_mul, zero_add]
  | ⟨1, _⟩ => show win0_4.index t (1 : Fin 2) * 1024 + 1 * j.val = j.val; rw [e1, one_mul, zero_mul, zero_add]

theorem block5 (t : Fin cfg0.N) (k j : Fin 1024) : iblk (F := Ideal) m c 5 t (ix2 k j) = arg5 m c (ix2 k j) := by
  obtain ⟨-, -, -, -, e0, e1⟩ := index_whole t
  rw [← wout_at m c k j]
  unfold iblk; rw [View.read_apply]
  show V (F := Ideal) m c main_v2 _ = _
  congr 1
  funext a; apply Fin.ext
  match a with
  | ⟨0, _⟩ => show win0_5.index t (0 : Fin 2) * 1024 + 1 * k.val = k.val; rw [e0, one_mul, zero_mul, zero_add]
  | ⟨1, _⟩ => show win0_5.index t (1 : Fin 2) * 1024 + 1 * j.val = j.val; rw [e1, one_mul, zero_mul, zero_add]

/-- The scratch after a point holds the projected memory of the point's batch. -/
theorem scratch_at : ∀ (n : ℕ) (h : n < cfg0.N) (s : Fin 256) (j : Fin 1024),
    (outsAt0 (F := Ideal) m c n h).2 (ix2 s j) = AttnRead.memKV (arg2 m c) (arg3 m c) (arg4 m c)
      ⟨n / 8, by have := point_lt ⟨n, h⟩; simp at this; omega⟩ s j := by
  intro n
  induction n with
  | zero =>
    intro h s j
    have e := congrArg Prod.snd (outsAt0_A m c ⟨0, h⟩ rfl)
    rw [show outsAt0 (F := Ideal) m c 0 h = outsAt0 (F := Ideal) m c (⟨0, h⟩ : Fin cfg0.N).val (⟨0, h⟩ : Fin cfg0.N).isLt from rfl, e]
    dsimp only
    rw [scratch_A, memory_at]
    unfold AttnRead.memKV
    simp only [block2, block3, block4]
  | succ n ih =>
    intro h s j
    rw [show outsAt0 (F := Ideal) m c (n + 1) h = outsAt0 (F := Ideal) m c (⟨n + 1, h⟩ : Fin cfg0.N).val (⟨n + 1, h⟩ : Fin cfg0.N).isLt from rfl]
    by_cases h0 : (n + 1) % 8 = 0
    · rw [congrArg Prod.snd (outsAt0_A m c ⟨n + 1, h⟩ h0)]
      dsimp only
      rw [scratch_A, memory_at]
      unfold AttnRead.memKV
      simp only [block2, block3, block4]
    · rw [congrArg Prod.snd (outsAt0_B m c ⟨n + 1, h⟩ h0)]
      unfold sout0_B_0
      dsimp only
      refine (ih (Nat.lt_of_succ_lt h) s j).trans ?_
      congr 1
      apply Fin.ext
      show n / 8 = (n + 1) / 8
      omega

/-- The output block after a point, from the scratch of that point. -/
theorem out_block (t : Fin cfg0.N) : (outsAt0 (F := Ideal) m c t.val t.isLt).1
    = outBlock (iblk (F := Ideal) m c 0 t) (iblk (F := Ideal) m c 1 t) (iblk (F := Ideal) m c 5 t) (iblk (F := Ideal) m c 6 t) (outsAt0 (F := Ideal) m c t.val t.isLt).2 := by
  by_cases h0 : t.val % 8 = 0
  · rw [outsAt0_A m c t h0]
    dsimp only
    rw [out_A, scratch_A]
  · rw [outsAt0_B m c t h0]
    dsimp only
    rw [out_B]
    rfl

/-- The kernel's output array, at an index. -/
theorem array_at (n : Fin 32768) (j : Fin 1024) : G7 (F := Ideal) m c (ix2 n j) = AttnRead.attnOut (arg0 m c) (arg1 m c) (arg2 m c)
    (arg3 m c) (arg4 m c) (arg5 m c) (arg6 m c) n j := by
  have h0 := n.isLt
  have h1 := j.isLt
  have hp : pt7Of (ix2 n j) = n.val / 1024 := by
    show 1 * (n.val / 1024 - 0) + 1 * (j.val / 1024 - 0) = _; omega
  have hN : n.val / 1024 < cfg0.N := lt_of_lt_of_eq (by omega) N_0.symm
  have hl : loc7Of (ix2 n j) = (ix2 ⟨n.val % 1024, by omega⟩ j : S1024x1024.Idx) := by
    funext a; apply Fin.ext
    match a with
    | ⟨0, _⟩ => rfl
    | ⟨1, _⟩ => show j.val % 1024 = j.val; omega
  unfold G7
  rw [dif_pos (by rw [hp]; exact hN), hl, fold0_congr m c _ _ (n.val / 1024) (by omega) hp, ← outsAt0_sweep m c _ hN]
  refine (congrFun (out_block m c ⟨n.val / 1024, hN⟩) _).trans ?_
  rw [outBlock_at]
  unfold AttnRead.attnOut headBlock AttnRead.headOut
  simp only [block0, block1, block5, block6, scratch_at]
  have eb : n.val / 1024 / 8 = n.val / 8192 := by omega
  have eq : n.val / 8192 * 8192 + n.val % 8192 = n.val := by omega
  have er : n.val / 1024 * 1024 + n.val % 1024 = n.val := by omega
  simp only [er, eb, eq]

end Cert.AttnIdeal.Blocks

end
-- ==== Proof.AttnClaims.lean ====
/-
  The attention's two value claims: its named factor is the rounded constant's real number, and the kernel's result is the
  reference's.
-/
module

public import proofs.«01_k».proof.Defs
public import proofs.«01_k».proof.Proof.AttnValue
public import proofs.«01_k».proof.Proof.Gen.Attn.Frame
public import proofs.«01_k».proof.Proof.Gen.AttnRefIdeal.Run

@[expose] public section

noncomputable section

namespace Cert.Proof

open Idealize.ShloMosaic Idealize.ShloMosaic.TcCoe Idealize.SL.Sem

/-- From memories that agree on the arguments, the kernel's array is the reference's result. -/
theorem attn_eq (m : (ℓ : Loc Cert.AttnIdeal.nD Cert.AttnIdeal.τ Cert.AttnIdeal.sig) → Buf (Elt Ideal) ℓ) (c : Dev Cert.AttnIdeal.nD)
    (x0 x1 : Cert.AttnIdeal.S32768x512.Idx → EReal) (x2 : Cert.AttnIdeal.S4x256x1024.Idx → EReal) (x3 : Cert.AttnIdeal.S1024.Idx → EReal)
    (x4 x5 : Cert.AttnIdeal.S1024x1024.Idx → EReal) (x6 : Cert.AttnIdeal.S32768x1024.Idx → EReal)
    (h0 : x0 = Cert.AttnIdeal.Blocks.arg0 m c) (h1 : x1 = Cert.AttnIdeal.Blocks.arg1 m c) (h2 : x2 = Cert.AttnIdeal.Blocks.arg2 m c)
    (h3 : x3 = Cert.AttnIdeal.Blocks.arg3 m c) (h4 : x4 = Cert.AttnIdeal.Blocks.arg4 m c) (h5 : x5 = Cert.AttnIdeal.Blocks.arg5 m c)
    (h6 : x6 = Cert.AttnIdeal.Blocks.arg6 m c) :
    Cert.AttnRefIdeal.Read.val_main_v46 (F := Ideal) x0 x1 x2 x3 x4 x5 x6 = Cert.AttnIdeal.Value.G7 (F := Ideal) m c := by
  subst h0 h1 h2 h3 h4 h5 h6
  funext i
  obtain ⟨n, j, rfl⟩ : ∃ (n : Fin 32768) (j : Fin 1024), i = ix2 n j := ⟨i 0, i 1, eq_ix2 i⟩
  rw [Cert.AttnRead.result_at]
  exact (Cert.AttnIdeal.Blocks.array_at m c n j).symm

/-- The attention's constants: the factor named at the kernel's four sites is its bit pattern's real number. -/
theorem preserves_attn : Cert.preserves_Attn_AttnIdeal :=
  IdealRules.named_const.statement Cert.AttnIdeal.κ "scale_log2e" .f32 0x3E0293EE#32 (((Real.log 2)⁻¹ * (Real.sqrt 128)⁻¹ : ℝ) : EReal) rfl

/-- The attention kernel computes the reference's attention over the extended reals. -/
theorem algebraic_attn : @Cert.algebraic_AttnIdeal_AttnRefIdeal Cert.AttnIdeal.Gen.facts Cert.AttnRefIdeal.Gen.facts :=
  fun m ρ m' ρ' _ hag => ⟨fun c => Cert.AttnIdeal.Value.G7 (F := Ideal) m c, Cert.AttnIdeal.Value.run m ρ,
    (θ_run _ _ _).mono (fun _ h c => ⟨(h c).1.trans ((Cert.AttnRefIdeal.Read.val_main_v46_eq m' c).trans
      (attn_eq m c _ _ _ _ _ _ _ (hag c).1 (hag c).2.1 (hag c).2.2.1 (hag c).2.2.2.1 (hag c).2.2.2.2.1 (hag c).2.2.2.2.2.1
        (hag c).2.2.2.2.2.2)), (h c).2⟩) (Cert.AttnRefIdeal.Value.run m' ρ')⟩

/-- The kernel, as written and idealized, leaves its arguments and every semaphore as it found them. -/
theorem frame_attn : @Cert.quiescent_Attn Cert.Attn.Gen.facts := fun m ρ _ => Cert.Attn.Gen.frame m ρ
theorem frame_attn_ideal : @Cert.quiescent_AttnIdeal Cert.AttnIdeal.Gen.facts := fun m ρ _ => Cert.AttnIdeal.Gen.frame m ρ

/-- The reference leaves its arguments as it found them; it has no semaphores. -/
theorem frame_attn_ref : @Cert.quiescent_AttnRefIdeal Cert.AttnRefIdeal.Gen.facts := fun m ρ _ =>
  (θ_run Cert.AttnRefIdeal.defs _ _).mono (fun r h => ⟨fun c => (h c).2, Idealize.ShloMosaic.sem_eq_zero_of_no_sems (by decide) r.2⟩)
    (Cert.AttnRefIdeal.Value.run (F := Ideal) m ρ)

end Cert.Proof

end
-- ==== Proof.FfnRead.lean ====
/-
  The feed-forward layer's reference read at an index: the normed row, its up-projection, the causal convolution over the
  rows of its batch, the gated product, the down-projection and the last norm.
-/
module

public import proofs.«01_k».proof.Proof.Gen.FfnRefIdeal.Read
public import Idealize.ShloMosaic.Lib.Pointwise

@[expose] public section

set_option maxRecDepth 16384

noncomputable section

namespace Cert.FfnRead

open Idealize.ShloMosaic Cert.FfnRefIdeal Cert.FfnRefIdeal.Gen Cert.FfnRefIdeal.Read

/-- Entry `k` of a row over its root mean square, times the gain. -/
def rowNorm (x g : Fin 1024 → EReal) (k : Fin 1024) : EReal :=
  x k * Ideal.rsqrt (Ideal.div (∑ k, x k * x k) (Ideal.ofBits .f32 0x44800000#32) + Ideal.ofBits .f32 0x358637BD#32) * g k

/-- The three taps of the causal convolution and its bias. -/
def taps (p2 p1 p0 w0 w1 w2 b : EReal) : EReal := p2 * w0 + p1 * w1 + p0 * w2 + b

/-- The gated product: `u` times its sigmoid, times `v`. -/
def gated (u v : EReal) : EReal :=
  u * Ideal.div (Ideal.ofBits .f32 0x3F800000#32) (Ideal.ofBits .f32 0x3F800000#32 + Ideal.exp (-u)) * v

variable (x0 : (⟨S32768x1024, .f32⟩ : BufTy).Contents (Elt Ideal)) (x1 : (⟨S1024, .f32⟩ : BufTy).Contents (Elt Ideal))
  (x2 : (⟨S1024x5632, .f32⟩ : BufTy).Contents (Elt Ideal)) (x3 : (⟨S3x2816, .f32⟩ : BufTy).Contents (Elt Ideal))
  (x4 : (⟨S2816, .f32⟩ : BufTy).Contents (Elt Ideal)) (x5 : (⟨S2816x1024, .f32⟩ : BufTy).Contents (Elt Ideal))
  (x6 : (⟨S1024, .f32⟩ : BufTy).Contents (Elt Ideal))

/-- Column `j` of the up-projection of row `n`. -/
def up (n : Fin 32768) (j : Fin 5632) : EReal :=
  ∑ k, rowNorm (fun k => x0 (ix2 n k)) (fun k => x1 (ix1 k)) k * x2 (ix2 k j)

/-- Column `j` of the up-projection `d` rows above row `n` in its batch of 8192 rows, zero above the batch's first row. -/
def above (d : Nat) (n : Fin 32768) (j : Fin 5632) : EReal :=
  if d ≤ n.val % 8192 then up x0 x1 x2 ⟨n.val - d, by omega⟩ j else 0

/-- Column `j` of the gated array in row `n`. -/
def act (n : Fin 32768) (j : Fin 2816) : EReal :=
  gated (taps (above x0 x1 x2 2 n ⟨j.val, by omega⟩) (above x0 x1 x2 1 n ⟨j.val, by omega⟩) (up x0 x1 x2 n ⟨j.val, by omega⟩)
    (x3 (ix2 0 j)) (x3 (ix2 1 j)) (x3 (ix2 2 j)) (x4 (ix1 j))) (up x0 x1 x2 n ⟨2816 + j.val, by omega⟩)

/-- The residual plus the down-projection. -/
def sumRow (n : Fin 32768) (c : Fin 1024) : EReal :=
  x0 (ix2 n c) + ∑ j, act x0 x1 x2 x3 x4 n j * x5 (ix2 j c)

/-- The layer's result. -/
def ffnOut (n : Fin 32768) (c : Fin 1024) : EReal := rowNorm (sumRow x0 x1 x2 x3 x4 x5 n) (fun k => x6 (ix1 k)) c

/-- Row `t` of batch `b` among all rows. -/
abbrev rowOf (b : Fin 4) (t : Fin 8192) : Fin 32768 := ⟨b.val * 8192 + t.val, by omega⟩

theorem up_at (b : Fin 4) (t : Fin 8192) (j : Fin 5632) :
    val_main_v14 (F := Ideal) x0 x1 x2 (ix3 b t j) = up x0 x1 x2 (rowOf b t) j := by
  pointwise [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  rfl

/-- The padded half of the up-projection: two rows of zeros above each batch. -/
theorem padded_at (b : Fin 4) (t : Fin 8194) (j : Fin 2816) :
    val_main_v17 (F := Ideal) x0 x1 x2 (ix3 b t j) = if h : 2 ≤ t.val then
      up x0 x1 x2 (rowOf b ⟨t.val - 2, by omega⟩) ⟨j.val, by omega⟩ else 0 := by
  have hz : val_main_call0_v0 (F := Ideal) (Shape.Idx.first h_S_) = 0 := by
    rw [val_main_call0_v0_apply, val_main_c_apply]
    show ((((0#32 : BitVec 32).toInt : ℤ) : ℝ) : EReal) = 0
    simp
  unfold val_main_v17
  pointwise [val_main_v15]
  by_cases h : 2 ≤ t.val
  · rw [dif_pos ⟨h, by omega⟩, dif_pos h, up_at]
  · rw [dif_neg (fun g => h g.1), dif_neg h, hz]

theorem mix_at (b : Fin 4) (t : Fin 8192) (j : Fin 2816) :
    val_main_v42 (F := Ideal) x0 x1 x2 x3 x4 (ix3 b t j) = taps (above x0 x1 x2 2 (rowOf b t) ⟨j.val, by omega⟩)
      (above x0 x1 x2 1 (rowOf b t) ⟨j.val, by omega⟩) (up x0 x1 x2 (rowOf b t) ⟨j.val, by omega⟩)
      (x3 (ix2 0 j)) (x3 (ix2 1 j)) (x3 (ix2 2 j)) (x4 (ix1 j)) := by
  have key : ∀ (d s : Nat) (hs : s + d = t.val + 2) (hlt : 2 ≤ s → s - 2 < 8192) (c : Fin 5632),
      (if h : 2 ≤ s then up x0 x1 x2 (rowOf b ⟨s - 2, hlt h⟩) c else 0) = above x0 x1 x2 d (rowOf b t) c := by
    intro d s hs hlt c
    have hm : (rowOf b t).val % 8192 = t.val := by show (b.val * 8192 + t.val) % 8192 = t.val; omega
    unfold above
    by_cases h : 2 ≤ s
    · rw [dif_pos h, if_pos (by omega)]
      congr 1
      apply Fin.ext
      show b.val * 8192 + (s - 2) = b.val * 8192 + t.val - d
      omega
    · rw [dif_neg h, if_neg (by omega)]
  have key0 : ∀ c : Fin 5632, above x0 x1 x2 0 (rowOf b t) c = up x0 x1 x2 (rowOf b t) c := fun c => by
    unfold above
    rw [if_pos (Nat.zero_le _)]
    rfl
  pointwise [val_main_v42, val_main_v41, val_main_v40, val_main_v39, val_main_v38, val_main_v37, val_main_v36, val_main_v35,
    val_main_v34, val_main_v33, val_main_v32, val_main_v31, val_main_v30, val_main_v29, val_main_v28, val_main_v27, val_main_v26,
    val_main_v25, val_main_v24, val_main_v23, val_main_v22, val_main_v21, val_main_v20, val_main_v19, val_main_v18, val_main_cst_2]
  simp only [padded_at]
  unfold taps
  rw [key 2 t.val (by omega), key 1 (1 + t.val) (by omega), key 0 (2 + t.val) (by omega), key0]

theorem act_at (b : Fin 4) (t : Fin 8192) (j : Fin 2816) :
    val_main_v44 (F := Ideal) x0 x1 x2 x3 x4 (ix3 b t j) = act x0 x1 x2 x3 x4 (rowOf b t) j := by
  unfold act gated
  rw [← mix_at, ← up_at]
  pointwise [val_main_v44, val_main_v43, val_main_v16, val_main_call1_v5, val_main_call1_v4, val_main_call1_v3, val_main_call1_v2,
    val_main_call1_v1, val_main_call1_v0, val_main_call1_cst, val_main_call1_cst_0]

theorem sumRow_at (b : Fin 4) (t : Fin 8192) (c : Fin 1024) :
    val_main_v46 (F := Ideal) x0 x1 x2 x3 x4 x5 (ix3 b t c) = sumRow x0 x1 x2 x3 x4 x5 (rowOf b t) c := by
  unfold sumRow
  simp only [← act_at]
  pointwise [val_main_v46, val_main_v45, val_main_v0]

/-- What the reference returns, at an index. -/
theorem result_at (n : Fin 32768) (c : Fin 1024) :
    val_main_v60 (F := Ideal) x0 x1 x2 x3 x4 x5 x6 (ix2 n c) = ffnOut x0 x1 x2 x3 x4 x5 x6 n c := by
  have hn : rowOf ⟨n.val / 8192, by omega⟩ ⟨n.val % 8192, by omega⟩ = n := Fin.ext (by show n.val / 8192 * 8192 + n.val % 8192 = n.val; omega)
  have e : ∀ c, sumRow x0 x1 x2 x3 x4 x5 n c
      = val_main_v46 (F := Ideal) x0 x1 x2 x3 x4 x5 (ix3 ⟨n.val / 8192, by omega⟩ ⟨n.val % 8192, by omega⟩ c) := fun c => by
    rw [sumRow_at, hn]
  unfold ffnOut rowNorm
  simp only [e]
  pointwise [val_main_v60, val_main_v59, val_main_v58, val_main_v57, val_main_v56, val_main_v55, val_main_v54, val_main_v53,
    val_main_v52, val_main_v51, val_main_v50, val_main_v49, val_main_v48, val_main_v47, val_main_cst_3, val_main_cst_4, val_main_cst_5]

end Cert.FfnRead

end
-- ==== Proof.FfnBlock.lean ====
/-
  What one grid point of the feed-forward kernel leaves in its output block and in its carried rows: the eleven chunks of
  the up-projection are one function of the chunk's number, and the chunks join to the gated array the down-projection reads.
-/
module

public import proofs.«01_k».proof.Proof.Gen.FfnIdeal.Value
public import Idealize.ShloMosaic.Lib.Pipeline.Value
public import Idealize.ShloMosaic.Lib.Tactic
public import Idealize.ShloMosaic.Lib.Pointwise
public import Idealize.ShloMosaic.Lib.Pipeline.ReadBack

@[expose] public section

set_option maxRecDepth 16384

noncomputable section

namespace Cert.FfnIdeal.Block

open Cert.FfnIdeal Cert.FfnIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- One half of a chunk's up-projection: the normed rows times 256 columns of the weights. -/
def upCols (h : Vec F S1024x1024 .bf16) (w : Vec F S1024x256 .bf16) : FVec F S1024x256 .f32 :=
  matmul dot_S1024x1024_S1024x256_S1024x256_1_0_0_1_n_n none h (shapeCast S1024x256 w shapeCasts_S1024x256_S1024x256)
    (constant S1024x256 .f32 0x00000000#32)

/-- Row `r` of the rows carried from the tile before, spread over eight rows. -/
def carried (r : Nat) (h : S8x256.Slices ![r, 0] S1x256) (t : Vec F S1x8x256 .f32) : FVec F S8x256 .f32 :=
  broadcastTo S8x256 (shapeCast S1x256 (extractStridedSlice S1x256 ![r, 0] (shapeCast S8x256 t shapeCasts_S1x8x256_S8x256) h)
    shapeCasts_S1x256_S1x256) broadcasts_S1x256_S8x256

/-- Where the first eight rows' number is `n`. -/
def rowIs (n : BitVec 32) : IVec S8x256 1 := cmpi .eq (iota .tc S8x256 32 [0] iota_S8x256_d0_w32) (broadcast S8x256 n)

/-- A chunk moved down one row, the carried rows entering at the top. -/
def down1 (a : FVec F S1024x256 .f32) (t : Vec F S1x8x256 .f32) : FVec F S1024x256 .f32 :=
  concatenate S1024x256 0
    [⟨S8x256, select (rowIs 0#32) (carried 7 slices_S8x256_o7_0_S1x256 t)
        (extractStridedSlice S8x256 ![0, 0] (dynamicRotate 0 1#32 none a rotates_S1024x256_d0) slices_S1024x256_o0_0_S8x256)⟩,
      ⟨S1016x256, extractStridedSlice S1016x256 ![8, 0] (dynamicRotate 0 1#32 none a rotates_S1024x256_d0) slices_S1024x256_o8_0_S1016x256⟩]
    concatenates_S8x256_S1016x256_S1024x256_d0

/-- A chunk moved down two rows, the carried rows entering at the top. -/
def down2 (a : FVec F S1024x256 .f32) (t : Vec F S1x8x256 .f32) : FVec F S1024x256 .f32 :=
  concatenate S1024x256 0
    [⟨S8x256, select (rowIs 0#32) (carried 6 slices_S8x256_o6_0_S1x256 t)
        (select (rowIs 1#32) (carried 7 slices_S8x256_o7_0_S1x256 t)
          (extractStridedSlice S8x256 ![0, 0] (dynamicRotate 0 2#32 none a rotates_S1024x256_d0) slices_S1024x256_o0_0_S8x256))⟩,
      ⟨S1016x256, extractStridedSlice S1016x256 ![8, 0] (dynamicRotate 0 2#32 none a rotates_S1024x256_d0) slices_S1024x256_o8_0_S1016x256⟩]
    concatenates_S8x256_S1016x256_S1024x256_d0

/-- A chunk's convolution along the rows: three taps and the bias. -/
def conv (a : FVec F S1024x256 .f32) (t : Vec F S1x8x256 .f32) (c0 c1 c2 cb : Vec F S1x256 .f32) : FVec F S1024x256 .f32 :=
  addf (addf (addf (mulf (down2 a t) (broadcastTo S1024x256 c0 broadcasts_S1x256_S1024x256))
      (mulf (down1 a t) (broadcastTo S1024x256 c1 broadcasts_S1x256_S1024x256)))
      (mulf a (broadcastTo S1024x256 c2 broadcasts_S1x256_S1024x256)))
    (broadcastTo S1024x256 (shapeCast S1x256 cb shapeCasts_S1x256_S1x256) broadcasts_S1x256_S1024x256)

/-- A chunk's gated product: the convolution times its own sigmoid, times the other half. -/
def gate (u b : FVec F S1024x256 .f32) : FVec F S1024x256 .bf16 :=
  shapeCast S1024x256 (truncf .bf16 (mulf (mulf u (divf (broadcast S1024x256 (Scalar.ofBits .f32 0x3F800000#32))
    (addf (broadcast S1024x256 (Scalar.ofBits .f32 0x3F800000#32)) (exp (subf (broadcast S1024x256 (Scalar.ofBits .f32 0x00000000#32)) u))))) b)
    bitsLt_bf16_f32) shapeCasts_S1024x256_S1024x256

/-- The last eight rows of a chunk, kept for the next tile. -/
def lastRows (a : FVec F S1024x256 .f32) : FVec F S1x8x256 .f32 :=
  shapeCast S1x8x256 (extractStridedSlice S8x256 ![1016, 0] a slices_S1024x256_o1016_0_S8x256) shapeCasts_S8x256_S1x8x256

/-- The 256 columns of the up-projection's weights from column `o + 256 j`. -/
def wCols (o : Nat) (ho : o ≤ 2816) (x2 : Vec F S1024x5632 .bf16) (j : Fin 11) : Vec F S1024x256 .bf16 :=
  View.ld x2 (Rect.unit ![0, o + 256 * j.val] ![1024, 256] fun a => match a with
    | ⟨0, _⟩ => by show 0 + 1024 ≤ 1024; omega
    | ⟨1, _⟩ => by show o + 256 * j.val + 256 ≤ 5632; omega)

/-- The 256 columns of tap `p` of the convolution from column `256 j`. -/
def tapCols (p : Fin 3) (x3 : Vec F S3x2816 .f32) (j : Fin 11) : Vec F S1x256 .f32 :=
  View.ld x3 (Rect.unit ![p.val, 256 * j.val] ![1, 256] fun a => match a with
    | ⟨0, _⟩ => by show p.val + 1 ≤ 3; omega
    | ⟨1, _⟩ => by show 256 * j.val + 256 ≤ 2816; omega)

/-- The 256 columns of the convolution's bias from column `256 j`. -/
def biasCols (x4 : Vec F S1x2816 .f32) (j : Fin 11) : Vec F S1x256 .f32 :=
  View.ld x4 (Rect.unit ![0, 256 * j.val] ![1, 256] fun a => match a with
    | ⟨0, _⟩ => by show 0 + 1 ≤ 1; omega
    | ⟨1, _⟩ => by show 256 * j.val + 256 ≤ 2816; omega)

/-- The rows carried for chunk `j`. -/
def carry (T : Vec F S11x8x256 .f32) (j : Fin 11) : Vec F S1x8x256 .f32 :=
  View.ld T (Rect.unit ![j.val, 0, 0] ![1, 8, 256] fun a => match a with
    | ⟨0, _⟩ => by show j.val + 1 ≤ 11; omega
    | ⟨1, _⟩ => by show 0 + 8 ≤ 8; omega
    | ⟨2, _⟩ => by show 0 + 256 ≤ 256; omega)

/-- Chunk `j` of the gated array. -/
def actChunk (h : Vec F S1024x1024 .bf16) (x2 : Vec F S1024x5632 .bf16) (x3 : Vec F S3x2816 .f32) (x4 : Vec F S1x2816 .f32)
    (T : Vec F S11x8x256 .f32) (j : Fin 11) : Vec F S1024x256 .bf16 :=
  gate (conv (upCols h (wCols 0 (by omega) x2 j)) (carry T j) (tapCols 0 x3 j) (tapCols 1 x3 j) (tapCols 2 x3 j) (biasCols x4 j))
    (upCols h (wCols 2816 (by omega) x2 j))

/-- Chunk `j` of the rows kept for the next tile. -/
def keepChunk (h : Vec F S1024x1024 .bf16) (x2 : Vec F S1024x5632 .bf16) (j : Fin 11) : Vec F S1x8x256 .f32 :=
  lastRows (upCols h (wCols 0 (by omega) x2 j))

/-- Eleven chunks of 256 columns side by side. -/
def joinCols (C : Fin 11 → Vec F S1024x256 .bf16) : Vec F S1024x2816 .bf16 := fun y =>
  C ⟨(y 1).val / 256, by have h : (y 1).val < 2816 := (y 1).isLt; omega⟩
    (ix2 ⟨(y 0).val, (y 0).isLt⟩ ⟨(y 1).val % 256, Nat.mod_lt _ (by omega)⟩)

/-- Eleven chunks of kept rows, one above the other. -/
def stack (C : Fin 11 → Vec F S1x8x256 .f32) : Vec F S11x8x256 .f32 := fun y =>
  C ⟨(y 0).val, (y 0).isLt⟩ (ix3 0 ⟨(y 1).val, (y 1).isLt⟩ ⟨(y 2).val, (y 2).isLt⟩)

/-- The chunk stored at column `256 j` is that block of the joined array. -/
theorem joinCols_emb (C : Fin 11 → Vec F S1024x256 .bf16) (j : Fin 11)
    (inb : ∀ a, (![0, 256 * j.val] : Fin 2 → Nat) a + (![1024, 256] : Fin 2 → Nat) a ≤ S1024x2816.size a) (x : S1024x256.Idx) :
    C j x = joinCols C ((Rect.unit (s := S1024x2816) ![0, 256 * j.val] ![1024, 256] inb).emb x) := by
  have h0 : (x 0).val < 1024 := (x 0).isLt
  have h1 : (x 1).val < 256 := (x 1).isLt
  have e0 : ((Rect.unit (s := S1024x2816) ![0, 256 * j.val] ![1024, 256] inb).emb x 0).val = (x 0).val := by
    show 0 + 1 * (x 0).val = _; omega
  have e1 : ((Rect.unit (s := S1024x2816) ![0, 256 * j.val] ![1024, 256] inb).emb x 1).val = 256 * j.val + (x 1).val := by
    show 256 * j.val + 1 * (x 1).val = _; omega
  unfold joinCols
  have hj : (⟨((Rect.unit (s := S1024x2816) ![0, 256 * j.val] ![1024, 256] inb).emb x 1).val / 256, by rw [e1]; omega⟩ : Fin 11) = j :=
    Fin.ext (by show _ / 256 = _; rw [e1]; omega)
  rw [hj]
  congr 1
  funext a
  match a with
  | ⟨0, _⟩ => exact Fin.ext e0.symm
  | ⟨1, _⟩ => exact Fin.ext (by show (x 1).val = _ % 256; rw [e1]; omega)

/-- The chunk kept at place `j` is that block of the stack. -/
theorem stack_emb (C : Fin 11 → Vec F S1x8x256 .f32) (j : Fin 11)
    (inb : ∀ a, (![j.val, 0, 0] : Fin 3 → Nat) a + (![1, 8, 256] : Fin 3 → Nat) a ≤ S11x8x256.size a) (x : S1x8x256.Idx) :
    C j x = stack C ((Rect.unit (s := S11x8x256) ![j.val, 0, 0] ![1, 8, 256] inb).emb x) := by
  have h0 : (x 0).val < 1 := (x 0).isLt
  have e0 : ((Rect.unit (s := S11x8x256) ![j.val, 0, 0] ![1, 8, 256] inb).emb x 0).val = j.val := by
    show j.val + 1 * (x 0).val = _; omega
  have e1 : ((Rect.unit (s := S11x8x256) ![j.val, 0, 0] ![1, 8, 256] inb).emb x 1).val = (x 1).val := by
    show 0 + 1 * (x 1).val = _; omega
  have e2 : ((Rect.unit (s := S11x8x256) ![j.val, 0, 0] ![1, 8, 256] inb).emb x 2).val = (x 2).val := by
    show 0 + 1 * (x 2).val = _; omega
  unfold stack
  have hj : (⟨((Rect.unit (s := S11x8x256) ![j.val, 0, 0] ![1, 8, 256] inb).emb x 0).val, by rw [e0]; omega⟩ : Fin 11) = j := Fin.ext e0
  rw [hj]
  congr 1
  funext a
  match a with
  | ⟨0, _⟩ => exact Fin.ext (by show (x 0).val = 0; omega)
  | ⟨1, _⟩ => exact Fin.ext e1.symm
  | ⟨2, _⟩ => exact Fin.ext e2.symm

/-- What a load of the whole gated array reads after its eleven chunks were stored. -/
theorem chunks_read {sig' : RefSig} (v : View sig' .tc .vmem S1024x2816 .bf16) (C : Fin 11 → Vec F S1024x256 .bf16)
    (w0 w1 w2 w3 w4 w5 w6 w7 w8 w9 w10 : Vec F S1024x256 .bf16)
    (h0 : w0 = C 0) (h1 : w1 = C 1) (h2 : w2 = C 2) (h3 : w3 = C 3) (h4 : w4 = C 4) (h5 : w5 = C 5) (h6 : w6 = C 6) (h7 : w7 = C 7) (h8 : w8 = C 8) (h9 : w9 = C 9) (h10 : w10 = C 10) :
    v.readCov (Val := Elt F) [⟨Rect.unit ![0, 2560] ![1024, 256] inb_S1024x2816_S1024x256_0_2560, w10⟩, ⟨Rect.unit ![0, 2304] ![1024, 256] inb_S1024x2816_S1024x256_0_2304, w9⟩, ⟨Rect.unit ![0, 2048] ![1024, 256] inb_S1024x2816_S1024x256_0_2048, w8⟩
       , ⟨Rect.unit ![0, 1792] ![1024, 256] inb_S1024x2816_S1024x256_0_1792, w7⟩, ⟨Rect.unit ![0, 1536] ![1024, 256] inb_S1024x2816_S1024x256_0_1536, w6⟩, ⟨Rect.unit ![0, 1280] ![1024, 256] inb_S1024x2816_S1024x256_0_1280, w5⟩
       , ⟨Rect.unit ![0, 1024] ![1024, 256] inb_S1024x2816_S1024x256_0_1024, w4⟩, ⟨Rect.unit ![0, 768] ![1024, 256] inb_S1024x2816_S1024x256_0_768, w3⟩, ⟨Rect.unit ![0, 512] ![1024, 256] inb_S1024x2816_S1024x256_0_512, w2⟩
       , ⟨Rect.unit ![0, 256] ![1024, 256] inb_S1024x2816_S1024x256_0_256, w1⟩, ⟨Rect.unit ![0, 0] ![1024, 256] inb_S1024x2816_S1024x256_0_0, w0⟩]
      (Rect.unit ![0, 0] ![1024, 2816] inb_S1024x2816_S1024x2816_0_0).toLoadRect = joinCols C := by
  subst h0 h1 h2 h3 h4 h5 h6 h7 h8 h9 h10
  rw [View.readCov_eq_canon']
  funext y
  have e : (Rect.unit (s := S1024x2816) ![0, 0] ![1024, 2816] inb_S1024x2816_S1024x2816_0_0).toLoadRect.idx y = y := by
    funext a; apply Fin.ext
    match a with
    | ⟨0, _⟩ => show 0 + 1 * (y 0).val = (y 0).val; omega
    | ⟨1, _⟩ => show 0 + 1 * (y 1).val = (y 1).val; omega
  rw [e]
  exact View.canon_append_of_piecesOf (joinCols C) []
    [⟨Rect.unit ![0, 2560] ![1024, 256] inb_S1024x2816_S1024x256_0_2560, C 10⟩, ⟨Rect.unit ![0, 2304] ![1024, 256] inb_S1024x2816_S1024x256_0_2304, C 9⟩, ⟨Rect.unit ![0, 2048] ![1024, 256] inb_S1024x2816_S1024x256_0_2048, C 8⟩
       , ⟨Rect.unit ![0, 1792] ![1024, 256] inb_S1024x2816_S1024x256_0_1792, C 7⟩, ⟨Rect.unit ![0, 1536] ![1024, 256] inb_S1024x2816_S1024x256_0_1536, C 6⟩, ⟨Rect.unit ![0, 1280] ![1024, 256] inb_S1024x2816_S1024x256_0_1280, C 5⟩
       , ⟨Rect.unit ![0, 1024] ![1024, 256] inb_S1024x2816_S1024x256_0_1024, C 4⟩, ⟨Rect.unit ![0, 768] ![1024, 256] inb_S1024x2816_S1024x256_0_768, C 3⟩, ⟨Rect.unit ![0, 512] ![1024, 256] inb_S1024x2816_S1024x256_0_512, C 2⟩
       , ⟨Rect.unit ![0, 256] ![1024, 256] inb_S1024x2816_S1024x256_0_256, C 1⟩, ⟨Rect.unit ![0, 0] ![1024, 256] inb_S1024x2816_S1024x256_0_0, C 0⟩]
    ⟨joinCols_emb C 10 inb_S1024x2816_S1024x256_0_2560, joinCols_emb C 9 inb_S1024x2816_S1024x256_0_2304, joinCols_emb C 8 inb_S1024x2816_S1024x256_0_2048, joinCols_emb C 7 inb_S1024x2816_S1024x256_0_1792, joinCols_emb C 6 inb_S1024x2816_S1024x256_0_1536, joinCols_emb C 5 inb_S1024x2816_S1024x256_0_1280, joinCols_emb C 4 inb_S1024x2816_S1024x256_0_1024, joinCols_emb C 3 inb_S1024x2816_S1024x256_0_768, joinCols_emb C 2 inb_S1024x2816_S1024x256_0_512, joinCols_emb C 1 inb_S1024x2816_S1024x256_0_256, joinCols_emb C 0 inb_S1024x2816_S1024x256_0_0, trivial⟩
    y (View.cover_of_tiledL (s := S1024x2816) _ S1024x256.size (by sl_kernel_rfl) y)

/-- What the carried rows hold after their eleven chunks were stored, whatever was stored before. -/
theorem rows_kept (L : List (View.Piece (Elt F) S11x8x256 .f32)) (C : Fin 11 → Vec F S1x8x256 .f32)
    (w0 w1 w2 w3 w4 w5 w6 w7 w8 w9 w10 : Vec F S1x8x256 .f32)
    (h0 : w0 = C 0) (h1 : w1 = C 1) (h2 : w2 = C 2) (h3 : w3 = C 3) (h4 : w4 = C 4) (h5 : w5 = C 5) (h6 : w6 = C 6) (h7 : w7 = C 7) (h8 : w8 = C 8) (h9 : w9 = C 9) (h10 : w10 = C 10) :
    View.canon (Val := Elt F) ([⟨Rect.unit ![10, 0, 0] ![1, 8, 256] inb_S11x8x256_S1x8x256_10_0_0, w10⟩, ⟨Rect.unit ![9, 0, 0] ![1, 8, 256] inb_S11x8x256_S1x8x256_9_0_0, w9⟩, ⟨Rect.unit ![8, 0, 0] ![1, 8, 256] inb_S11x8x256_S1x8x256_8_0_0, w8⟩
       , ⟨Rect.unit ![7, 0, 0] ![1, 8, 256] inb_S11x8x256_S1x8x256_7_0_0, w7⟩, ⟨Rect.unit ![6, 0, 0] ![1, 8, 256] inb_S11x8x256_S1x8x256_6_0_0, w6⟩, ⟨Rect.unit ![5, 0, 0] ![1, 8, 256] inb_S11x8x256_S1x8x256_5_0_0, w5⟩
       , ⟨Rect.unit ![4, 0, 0] ![1, 8, 256] inb_S11x8x256_S1x8x256_4_0_0, w4⟩, ⟨Rect.unit ![3, 0, 0] ![1, 8, 256] inb_S11x8x256_S1x8x256_3_0_0, w3⟩, ⟨Rect.unit ![2, 0, 0] ![1, 8, 256] inb_S11x8x256_S1x8x256_2_0_0, w2⟩
       , ⟨Rect.unit ![1, 0, 0] ![1, 8, 256] inb_S11x8x256_S1x8x256_1_0_0, w1⟩, ⟨Rect.unit ![0, 0, 0] ![1, 8, 256] inb_S11x8x256_S1x8x256_0_0_0, w0⟩] ++ L)
      = stack C := by
  subst h0 h1 h2 h3 h4 h5 h6 h7 h8 h9 h10
  funext y
  exact View.canon_append_of_piecesOf (stack C) L
    [⟨Rect.unit ![10, 0, 0] ![1, 8, 256] inb_S11x8x256_S1x8x256_10_0_0, C 10⟩, ⟨Rect.unit ![9, 0, 0] ![1, 8, 256] inb_S11x8x256_S1x8x256_9_0_0, C 9⟩, ⟨Rect.unit ![8, 0, 0] ![1, 8, 256] inb_S11x8x256_S1x8x256_8_0_0, C 8⟩
       , ⟨Rect.unit ![7, 0, 0] ![1, 8, 256] inb_S11x8x256_S1x8x256_7_0_0, C 7⟩, ⟨Rect.unit ![6, 0, 0] ![1, 8, 256] inb_S11x8x256_S1x8x256_6_0_0, C 6⟩, ⟨Rect.unit ![5, 0, 0] ![1, 8, 256] inb_S11x8x256_S1x8x256_5_0_0, C 5⟩
       , ⟨Rect.unit ![4, 0, 0] ![1, 8, 256] inb_S11x8x256_S1x8x256_4_0_0, C 4⟩, ⟨Rect.unit ![3, 0, 0] ![1, 8, 256] inb_S11x8x256_S1x8x256_3_0_0, C 3⟩, ⟨Rect.unit ![2, 0, 0] ![1, 8, 256] inb_S11x8x256_S1x8x256_2_0_0, C 2⟩
       , ⟨Rect.unit ![1, 0, 0] ![1, 8, 256] inb_S11x8x256_S1x8x256_1_0_0, C 1⟩, ⟨Rect.unit ![0, 0, 0] ![1, 8, 256] inb_S11x8x256_S1x8x256_0_0_0, C 0⟩]
    ⟨stack_emb C 10 inb_S11x8x256_S1x8x256_10_0_0, stack_emb C 9 inb_S11x8x256_S1x8x256_9_0_0, stack_emb C 8 inb_S11x8x256_S1x8x256_8_0_0, stack_emb C 7 inb_S11x8x256_S1x8x256_7_0_0, stack_emb C 6 inb_S11x8x256_S1x8x256_6_0_0, stack_emb C 5 inb_S11x8x256_S1x8x256_5_0_0, stack_emb C 4 inb_S11x8x256_S1x8x256_4_0_0, stack_emb C 3 inb_S11x8x256_S1x8x256_3_0_0, stack_emb C 2 inb_S11x8x256_S1x8x256_2_0_0, stack_emb C 1 inb_S11x8x256_S1x8x256_1_0_0, stack_emb C 0 inb_S11x8x256_S1x8x256_0_0_0, trivial⟩
    y (View.cover_of_tiledL (s := S11x8x256) _ S1x8x256.size (by sl_kernel_rfl) y)

/-- The output block from the gated array: the residual plus the down-projection, normed. -/
def outBlock (x0 : Vec F S1024x1024 .f32) (x5 : Vec F S2816x1024 .bf16) (x6 : Vec F S1x1024 .f32) (A : Vec F S1024x2816 .bf16) :
    Vec F S1024x1024 .f32 := k0_pay98 x0 A x5 x6

/-- At a point whose rows were carried from the tile before: the output block. -/
theorem out_B (c : Dev nD) (i : grid0.Coords)
    (a2 : Memref sig .tc .vmem S1024x1024 .f32) (h2 : a2.IsWhole) (a3 : Memref sig .tc .vmem S1x1024 .f32) (h3 : a3.IsWhole) (a4 : Memref sig .tc .vmem S1024x5632 .bf16) (h4 : a4.IsWhole) (a5 : Memref sig .tc .vmem S3x2816 .f32) (h5 : a5.IsWhole) (a6 : Memref sig .tc .vmem S1x2816 .f32) (h6 : a6.IsWhole) (a7 : Memref sig .tc .vmem S2816x1024 .bf16) (h7 : a7.IsWhole) (a8 : Memref sig .tc .vmem S1x1024 .f32) (h8 : a8.IsWhole) (a9 : Memref sig .tc .vmem S1024x1024 .f32) (h9 : a9.IsWhole) (a10 : Memref sig .tc .vmem S1024x2816 .bf16) (h10 : a10.IsWhole) (a11 : Memref sig .tc .vmem S11x8x256 .f32) (h11 : a11.IsWhole)
    (hc : ¬cond0_0 i) (x0 : Vec F S1024x1024 .f32) (x1 : Vec F S1x1024 .f32) (x2 : Vec F S1024x5632 .bf16) (x3 : Vec F S3x2816 .f32)
    (x4 : Vec F S1x2816 .f32) (x5 : Vec F S2816x1024 .bf16) (x6 : Vec F S1x1024 .f32) (T : Vec F S11x8x256 .f32) :
    out0_B_7 c i a2 h2 a3 h3 a4 h4 a5 h5 a6 h6 a7 h7 a8 h8 a9 h9 a10 h10 a11 h11 hc x0 x1 x2 x3 x4 x5 x6 T
      = outBlock x0 x5 x6 (joinCols (actChunk (k0_pay2 x0 x1) x2 x3 x4 T)) := by
  unfold out0_B_7
  rw [View.read_writes_eq_canon _ _ _ (cover0_B_7 c i a2 h2 a3 h3 a4 h4 a5 h5 a6 h6 a7 h7 a8 h8 a9 h9 a10 h10 a11 h11 hc x0 x1 x2 x3 x4 x5 x6 T)]
  unfold kernelRun0_B
  dsimp only
  sl_unfold_words
  rw [View.canon_unit_zero hz2]
  simp only [View.readAt_eq_ld, h2.read_unread, h3.read_unread, h4.read_unread, h5.read_unread, h6.read_unread, h7.read_unread,
    h8.read_unread, h11.read_unread, View.ld_unit_zero (S := S1024x1024) hz2, View.ld_unit_zero (S := S1x1024) hz2,
    View.ld_unit_zero (S := S2816x1024) hz2]
  exact congrArg (k0_pay98 x0 · x5 x6) (chunks_read _ (actChunk (k0_pay2 x0 x1) x2 x3 x4 T) _ _ _ _ _ _ _ _ _ _ _  rfl rfl rfl rfl rfl rfl rfl rfl rfl rfl rfl )

/-- … and the rows kept. -/
theorem tail_B (c : Dev nD) (i : grid0.Coords)
    (a2 : Memref sig .tc .vmem S1024x1024 .f32) (h2 : a2.IsWhole) (a3 : Memref sig .tc .vmem S1x1024 .f32) (h3 : a3.IsWhole) (a4 : Memref sig .tc .vmem S1024x5632 .bf16) (h4 : a4.IsWhole) (a5 : Memref sig .tc .vmem S3x2816 .f32) (h5 : a5.IsWhole) (a6 : Memref sig .tc .vmem S1x2816 .f32) (h6 : a6.IsWhole) (a7 : Memref sig .tc .vmem S2816x1024 .bf16) (h7 : a7.IsWhole) (a8 : Memref sig .tc .vmem S1x1024 .f32) (h8 : a8.IsWhole) (a9 : Memref sig .tc .vmem S1024x1024 .f32) (h9 : a9.IsWhole) (a10 : Memref sig .tc .vmem S1024x2816 .bf16) (h10 : a10.IsWhole) (a11 : Memref sig .tc .vmem S11x8x256 .f32) (h11 : a11.IsWhole)
    (hc : ¬cond0_0 i) (x0 : Vec F S1024x1024 .f32) (x1 : Vec F S1x1024 .f32) (x2 : Vec F S1024x5632 .bf16) (x3 : Vec F S3x2816 .f32)
    (x4 : Vec F S1x2816 .f32) (x5 : Vec F S2816x1024 .bf16) (x6 : Vec F S1x1024 .f32) (T : Vec F S11x8x256 .f32) :
    sout0_B_1 c i a2 h2 a3 h3 a4 h4 a5 h5 a6 h6 a7 h7 a8 h8 a9 h9 a10 h10 a11 h11 hc x0 x1 x2 x3 x4 x5 x6 T = stack (keepChunk (k0_pay2 x0 x1) x2) := by
  unfold sout0_B_1
  rw [View.read_writes_eq_canon _ _ _ (scover0_B_1 c i a2 h2 a3 h3 a4 h4 a5 h5 a6 h6 a7 h7 a8 h8 a9 h9 a10 h10 a11 h11 hc x0 x1 x2 x3 x4 x5 x6 T)]
  unfold kernelRun0_B
  dsimp only
  sl_unfold_words
  simp only [View.readAt_eq_ld, h2.read_unread, h3.read_unread, h4.read_unread, h5.read_unread, h6.read_unread, h7.read_unread,
    h8.read_unread, h11.read_unread, View.ld_unit_zero (S := S1024x1024) hz2, View.ld_unit_zero (S := S1x1024) hz2,
    View.ld_unit_zero (S := S2816x1024) hz2]
  exact rows_kept [] (keepChunk (k0_pay2 x0 x1) x2) _ _ _ _ _ _ _ _ _ _ _  rfl rfl rfl rfl rfl rfl rfl rfl rfl rfl rfl

/-- At a batch's first point, whose carried rows are zeroed: the output block. -/
theorem out_A (c : Dev nD) (i : grid0.Coords)
    (a2 : Memref sig .tc .vmem S1024x1024 .f32) (h2 : a2.IsWhole) (a3 : Memref sig .tc .vmem S1x1024 .f32) (h3 : a3.IsWhole) (a4 : Memref sig .tc .vmem S1024x5632 .bf16) (h4 : a4.IsWhole) (a5 : Memref sig .tc .vmem S3x2816 .f32) (h5 : a5.IsWhole) (a6 : Memref sig .tc .vmem S1x2816 .f32) (h6 : a6.IsWhole) (a7 : Memref sig .tc .vmem S2816x1024 .bf16) (h7 : a7.IsWhole) (a8 : Memref sig .tc .vmem S1x1024 .f32) (h8 : a8.IsWhole) (a9 : Memref sig .tc .vmem S1024x1024 .f32) (h9 : a9.IsWhole) (a10 : Memref sig .tc .vmem S1024x2816 .bf16) (h10 : a10.IsWhole) (a11 : Memref sig .tc .vmem S11x8x256 .f32) (h11 : a11.IsWhole)
    (hc : cond0_0 i) (x0 : Vec F S1024x1024 .f32) (x1 : Vec F S1x1024 .f32) (x2 : Vec F S1024x5632 .bf16) (x3 : Vec F S3x2816 .f32)
    (x4 : Vec F S1x2816 .f32) (x5 : Vec F S2816x1024 .bf16) (x6 : Vec F S1x1024 .f32) :
    out0_A_7 c i a2 h2 a3 h3 a4 h4 a5 h5 a6 h6 a7 h7 a8 h8 a9 h9 a10 h10 a11 h11 hc x0 x1 x2 x3 x4 x5 x6
      = outBlock x0 x5 x6 (joinCols (actChunk (k0_pay2 x0 x1) x2 x3 x4 k0_pay1)) := by
  unfold out0_A_7
  rw [View.read_writes_eq_canon _ _ _ (cover0_A_7 c i a2 h2 a3 h3 a4 h4 a5 h5 a6 h6 a7 h7 a8 h8 a9 h9 a10 h10 a11 h11 hc x0 x1 x2 x3 x4 x5 x6)]
  unfold kernelRun0_A
  dsimp only
  sl_unfold_words
  rw [View.canon_unit_zero hz2]
  simp only [View.readAt_eq_ld, h2.read_unread, h3.read_unread, h4.read_unread, h5.read_unread, h6.read_unread, h7.read_unread,
    h8.read_unread, View.ld_unit_zero (S := S1024x1024) hz2, View.ld_unit_zero (S := S1x1024) hz2,
    View.ld_unit_zero (S := S2816x1024) hz2]
  simp (disch := decide) only [↓ View.readCov_skip, ↓ View.readCov_fill]
  exact congrArg (k0_pay98 x0 · x5 x6) (chunks_read _ (actChunk (k0_pay2 x0 x1) x2 x3 x4 k0_pay1) _ _ _ _ _ _ _ _ _ _ _  rfl rfl rfl rfl rfl rfl rfl rfl rfl rfl rfl )

/-- … and the rows kept. -/
theorem tail_A (c : Dev nD) (i : grid0.Coords)
    (a2 : Memref sig .tc .vmem S1024x1024 .f32) (h2 : a2.IsWhole) (a3 : Memref sig .tc .vmem S1x1024 .f32) (h3 : a3.IsWhole) (a4 : Memref sig .tc .vmem S1024x5632 .bf16) (h4 : a4.IsWhole) (a5 : Memref sig .tc .vmem S3x2816 .f32) (h5 : a5.IsWhole) (a6 : Memref sig .tc .vmem S1x2816 .f32) (h6 : a6.IsWhole) (a7 : Memref sig .tc .vmem S2816x1024 .bf16) (h7 : a7.IsWhole) (a8 : Memref sig .tc .vmem S1x1024 .f32) (h8 : a8.IsWhole) (a9 : Memref sig .tc .vmem S1024x1024 .f32) (h9 : a9.IsWhole) (a10 : Memref sig .tc .vmem S1024x2816 .bf16) (h10 : a10.IsWhole) (a11 : Memref sig .tc .vmem S11x8x256 .f32) (h11 : a11.IsWhole)
    (hc : cond0_0 i) (x0 : Vec F S1024x1024 .f32) (x1 : Vec F S1x1024 .f32) (x2 : Vec F S1024x5632 .bf16) (x3 : Vec F S3x2816 .f32)
    (x4 : Vec F S1x2816 .f32) (x5 : Vec F S2816x1024 .bf16) (x6 : Vec F S1x1024 .f32) :
    sout0_A_1 c i a2 h2 a3 h3 a4 h4 a5 h5 a6 h6 a7 h7 a8 h8 a9 h9 a10 h10 a11 h11 hc x0 x1 x2 x3 x4 x5 x6 = stack (keepChunk (k0_pay2 x0 x1) x2) := by
  unfold sout0_A_1
  rw [View.read_writes_eq_canon _ _ _ (scover0_A_1 c i a2 h2 a3 h3 a4 h4 a5 h5 a6 h6 a7 h7 a8 h8 a9 h9 a10 h10 a11 h11 hc x0 x1 x2 x3 x4 x5 x6)]
  unfold kernelRun0_A
  dsimp only
  sl_unfold_words
  simp only [View.readAt_eq_ld, h2.read_unread, h3.read_unread, h4.read_unread, h5.read_unread, h6.read_unread, h7.read_unread,
    h8.read_unread, View.ld_unit_zero (S := S1024x1024) hz2, View.ld_unit_zero (S := S1x1024) hz2,
    View.ld_unit_zero (S := S2816x1024) hz2]
  exact rows_kept [_] (keepChunk (k0_pay2 x0 x1) x2) _ _ _ _ _ _ _ _ _ _ _  rfl rfl rfl rfl rfl rfl rfl rfl rfl rfl rfl

end Cert.FfnIdeal.Block

end
-- ==== Proof.FfnBlockAt.lean ====
/-
  One grid point of the feed-forward kernel read at an index, over the extended reals: the normed rows, the up-projection's
  chunks, the rows above a row (within the tile, or carried from the tile before), the gated array, the kept rows and the
  output block.
-/
module

public import proofs.«01_k».proof.Proof.Consts
public import proofs.«01_k».proof.Proof.FfnRead
public import proofs.«01_k».proof.Proof.FfnBlock
public import Idealize.ShloMosaic.Lib.Pointwise

@[expose] public section

set_option maxRecDepth 16384

noncomputable section

namespace Cert.FfnIdeal.Block

open Cert.FfnIdeal Cert.FfnIdeal.Gen Idealize.ShloMosaic Cert.FfnRead

/-- The normed rows. -/
theorem norm_at (x0 : Vec Ideal S1024x1024 .f32) (x1 : Vec Ideal S1x1024 .f32) (r k : Fin 1024) :
    k0_pay2 x0 x1 (ix2 r k) = rowNorm (fun k => x0 (ix2 r k)) (fun k => x1 (ix2 0 k)) k := by
  pointwise [k0_pay2]
  rfl

theorem upCols_at (h : Vec Ideal S1024x1024 .bf16) (w : Vec Ideal S1024x256 .bf16) (r : Fin 1024) (c : Fin 256) :
    upCols h w (ix2 r c) = ∑ k, h (ix2 r k) * w (ix2 k c) := by
  pointwise [upCols]

/-- A choice by whether a row's number is `n`. -/
theorem select_row {α : Type} (r n : Nat) (hr : r < 8) (hn : n < 8) (x y : α) :
    Scalar.select (IntOp.cmpi CmpIPredicate.eq (BitVec.ofNat 32 r) (BitVec.ofNat 32 n)) x y = if r = n then x else y := by
  have e : (BitVec.ofNat 32 r = BitVec.ofNat 32 n) ↔ r = n := by
    rw [← BitVec.toNat_inj, BitVec.toNat_ofNat, BitVec.toNat_ofNat]
    omega
  by_cases h : r = n
  · subst h
    simp [Scalar.select, IntOp.cmpi]
  · have h' : ¬BitVec.ofNat 32 r = BitVec.ofNat 32 n := fun g => h (e.mp g)
    have hb : (BitVec.ofNat 32 r == BitVec.ofNat 32 n) = false := beq_eq_false_iff_ne.mpr h'
    simp [Scalar.select, IntOp.cmpi, h, hb]

theorem down1_at (a : FVec Ideal S1024x256 .f32) (t : Vec Ideal S1x8x256 .f32) (r : Fin 1024) (c : Fin 256) :
    down1 a t (ix2 r c) = if h : 1 ≤ r.val then a (ix2 ⟨r.val - 1, by omega⟩ c) else t (ix3 0 ⟨8 + r.val - 1, by omega⟩ c) := by
  pointwise [down1, carried, rowIs]
  by_cases h8 : r.val < 8
  · rw [dif_pos h8, select_row r.val 0 h8 (by omega)]
    by_cases h : 1 ≤ r.val
    · rw [dif_pos h, if_neg (by omega)]
      exact congrArg (fun k => a (ix2 k c)) (Fin.ext (by show (r.val + 1024 - 1) % 1024 = r.val - 1; omega))
    · rw [dif_neg h, if_pos (by omega)]
      exact congrArg (fun k => t (ix3 0 k c)) (Fin.ext (by show 7 = 8 + r.val - 1; omega))
  · rw [dif_neg h8, dif_pos (by omega)]
    exact congrArg (fun k => a (ix2 k c)) (Fin.ext (by show (8 + (r.val - 8) + 1024 - 1) % 1024 = r.val - 1; omega))

theorem down2_at (a : FVec Ideal S1024x256 .f32) (t : Vec Ideal S1x8x256 .f32) (r : Fin 1024) (c : Fin 256) :
    down2 a t (ix2 r c) = if h : 2 ≤ r.val then a (ix2 ⟨r.val - 2, by omega⟩ c) else t (ix3 0 ⟨8 + r.val - 2, by omega⟩ c) := by
  pointwise [down2, carried, rowIs]
  by_cases h8 : r.val < 8
  · rw [dif_pos h8, select_row r.val 0 h8 (by omega), select_row r.val 1 h8 (by omega)]
    by_cases h : 2 ≤ r.val
    · rw [dif_pos h, if_neg (by omega), if_neg (by omega)]
      exact congrArg (fun k => a (ix2 k c)) (Fin.ext (by show (r.val + 1024 - 2) % 1024 = r.val - 2; omega))
    · rw [dif_neg h]
      by_cases h0 : r.val = 0
      · rw [if_pos h0]
        exact congrArg (fun k => t (ix3 0 k c)) (Fin.ext (by show 6 = 8 + r.val - 2; omega))
      · rw [if_neg h0, if_pos (by omega)]
        exact congrArg (fun k => t (ix3 0 k c)) (Fin.ext (by show 7 = 8 + r.val - 2; omega))
  · rw [dif_neg h8, dif_pos (by omega)]
    exact congrArg (fun k => a (ix2 k c)) (Fin.ext (by show (8 + (r.val - 8) + 1024 - 2) % 1024 = r.val - 2; omega))

theorem conv_at (a : FVec Ideal S1024x256 .f32) (t : Vec Ideal S1x8x256 .f32) (c0 c1 c2 cb : Vec Ideal S1x256 .f32) (r : Fin 1024)
    (c : Fin 256) : conv a t c0 c1 c2 cb (ix2 r c) = taps (down2 a t (ix2 r c)) (down1 a t (ix2 r c)) (a (ix2 r c))
      (c0 (ix2 0 c)) (c1 (ix2 0 c)) (c2 (ix2 0 c)) (cb (ix2 0 c)) := by
  pointwise [conv]
  rfl

theorem gate_at (u b : FVec Ideal S1024x256 .f32) (r : Fin 1024) (c : Fin 256) :
    gate u b (ix2 r c) = gated (u (ix2 r c)) (b (ix2 r c)) := by
  pointwise [gate]
  unfold gated
  rw [zero_sub, Consts.ofBits_one]

theorem lastRows_at (a : FVec Ideal S1024x256 .f32) (z : Fin 1) (r : Fin 8) (c : Fin 256) :
    lastRows a (ix3 z r c) = a (ix2 ⟨1016 + r.val, by omega⟩ c) := by
  pointwise [lastRows]

theorem wCols_at (o : Nat) (ho : o ≤ 2816) (x2 : Vec Ideal S1024x5632 .bf16) (j : Fin 11) (k : Fin 1024) (c : Fin 256) :
    wCols o ho x2 j (ix2 k c) = x2 (ix2 k ⟨o + 256 * j.val + c.val, by omega⟩) := by
  pointwise [wCols]

theorem tapCols_at (p : Fin 3) (x3 : Vec Ideal S3x2816 .f32) (j : Fin 11) (c : Fin 256) :
    tapCols p x3 j (ix2 0 c) = x3 (ix2 p ⟨256 * j.val + c.val, by omega⟩) := by
  pointwise [tapCols]

theorem biasCols_at (x4 : Vec Ideal S1x2816 .f32) (j : Fin 11) (c : Fin 256) :
    biasCols x4 j (ix2 0 c) = x4 (ix2 0 ⟨256 * j.val + c.val, by omega⟩) := by
  pointwise [biasCols]

theorem carry_at (T : Vec Ideal S11x8x256 .f32) (j : Fin 11) (r : Fin 8) (c : Fin 256) :
    carry T j (ix3 0 r c) = T (ix3 j r c) := by
  pointwise [carry]

/-- Column `j` of the up-projection of a tile's row `r`. -/
def upTile (x0 : Vec Ideal S1024x1024 .f32) (x1 : Vec Ideal S1x1024 .f32) (x2 : Vec Ideal S1024x5632 .bf16) (r : Fin 1024)
    (j : Fin 5632) : EReal := ∑ k, rowNorm (fun k => x0 (ix2 r k)) (fun k => x1 (ix2 0 k)) k * x2 (ix2 k j)

/-- … and `d` rows above row `r`: within the tile, or among the carried rows. -/
def aboveTile (x0 : Vec Ideal S1024x1024 .f32) (x1 : Vec Ideal S1x1024 .f32) (x2 : Vec Ideal S1024x5632 .bf16)
    (T : Vec Ideal S11x8x256 .f32) (d : Nat) (hd : 1 ≤ d ∧ d ≤ 8) (r : Fin 1024) (j : Fin 2816) : EReal :=
  if h : d ≤ r.val then upTile x0 x1 x2 ⟨r.val - d, by omega⟩ ⟨j.val, by omega⟩
  else T (ix3 ⟨j.val / 256, by omega⟩ ⟨8 + r.val - d, by omega⟩ ⟨j.val % 256, by omega⟩)

theorem upChunk_at (x0 : Vec Ideal S1024x1024 .f32) (x1 : Vec Ideal S1x1024 .f32) (x2 : Vec Ideal S1024x5632 .bf16) (o : Nat)
    (ho : o ≤ 2816) (j : Fin 11) (r : Fin 1024) (c : Fin 256) :
    upCols (k0_pay2 x0 x1) (wCols o ho x2 j) (ix2 r c) = upTile x0 x1 x2 r ⟨o + 256 * j.val + c.val, by omega⟩ := by
  rw [upCols_at]
  unfold upTile
  simp only [norm_at, wCols_at]

/-- The gated array at an index. -/
theorem act_at (x0 : Vec Ideal S1024x1024 .f32) (x1 : Vec Ideal S1x1024 .f32) (x2 : Vec Ideal S1024x5632 .bf16)
    (x3 : Vec Ideal S3x2816 .f32) (x4 : Vec Ideal S1x2816 .f32) (T : Vec Ideal S11x8x256 .f32) (r : Fin 1024) (j : Fin 2816) :
    joinCols (actChunk (k0_pay2 x0 x1) x2 x3 x4 T) (ix2 r j)
      = gated (taps (aboveTile x0 x1 x2 T 2 (by omega) r j) (aboveTile x0 x1 x2 T 1 (by omega) r j)
          (upTile x0 x1 x2 r ⟨j.val, by omega⟩) (x3 (ix2 0 j)) (x3 (ix2 1 j)) (x3 (ix2 2 j)) (x4 (ix2 0 j)))
        (upTile x0 x1 x2 r ⟨2816 + j.val, by omega⟩) := by
  have hj : 256 * (j.val / 256) + j.val % 256 = j.val := by omega
  show actChunk (k0_pay2 x0 x1) x2 x3 x4 T ⟨j.val / 256, by omega⟩ (ix2 r ⟨j.val % 256, by omega⟩) = _
  unfold actChunk aboveTile
  rw [gate_at, conv_at, down1_at, down2_at]
  simp only [upChunk_at, tapCols_at, biasCols_at, carry_at, Nat.zero_add, Nat.add_assoc, hj]

/-- The kept rows at an index. -/
theorem kept_at (x0 : Vec Ideal S1024x1024 .f32) (x1 : Vec Ideal S1x1024 .f32) (x2 : Vec Ideal S1024x5632 .bf16)
    (j : Fin 11) (r : Fin 8) (c : Fin 256) : stack (keepChunk (k0_pay2 x0 x1) x2) (ix3 j r c)
      = upTile x0 x1 x2 ⟨1016 + r.val, by omega⟩ ⟨256 * j.val + c.val, by omega⟩ := by
  show keepChunk (k0_pay2 x0 x1) x2 j (ix3 0 r c) = _
  unfold keepChunk
  rw [lastRows_at, upChunk_at]
  simp only [Nat.zero_add]

/-- The carried rows of a batch's first tile are zero. -/
theorem zero_at (j : Fin 11) (r : Fin 8) (c : Fin 256) : (k0_pay1 (F := Ideal)) (ix3 j r c) = 0 := by
  pointwise [k0_pay1]

/-- The output block at an index. -/
theorem outBlock_at (x0 : Vec Ideal S1024x1024 .f32) (x5 : Vec Ideal S2816x1024 .bf16) (x6 : Vec Ideal S1x1024 .f32)
    (A : Vec Ideal S1024x2816 .bf16) (r c : Fin 1024) : outBlock x0 x5 x6 A (ix2 r c)
      = rowNorm (fun c => x0 (ix2 r c) + ∑ j, A (ix2 r j) * x5 (ix2 j c)) (fun k => x6 (ix2 0 k)) c := by
  pointwise [outBlock, k0_pay98]
  rfl

end Cert.FfnIdeal.Block

end
-- ==== Proof.FfnTile.lean ====
/-
  A grid point of the feed-forward against the layer: if the point's blocks are those of the launch arrays and the rows it
  finds carried are those above its tile, then what it computes is the layer's rows.
-/
module

public import proofs.«01_k».proof.Proof.FfnBlockAt

@[expose] public section

set_option maxRecDepth 16384

noncomputable section

namespace Cert.FfnIdeal.Block

open Cert.FfnIdeal Cert.FfnIdeal.Gen Idealize.ShloMosaic

/-- Row `r` of tile `t` among all rows. -/
abbrev tileRow (t : Fin 32) (r : Fin 1024) : Fin 32768 := ⟨t.val * 1024 + r.val, by omega⟩

variable {x0 : S32768x1024.Idx → EReal} {x1 : S1024.Idx → EReal} {x2 : S1024x5632.Idx → EReal} {x3 : S3x2816.Idx → EReal}
  {x4 : S2816.Idx → EReal} {x5 : S2816x1024.Idx → EReal} {t : Fin 32}
  {b0 : Vec Ideal S1024x1024 .f32} {b1 : Vec Ideal S1x1024 .f32} {b2 : Vec Ideal S1024x5632 .bf16} {b3 : Vec Ideal S3x2816 .f32}
  {b4 : Vec Ideal S1x2816 .f32} {b5 : Vec Ideal S2816x1024 .bf16} {T : Vec Ideal S11x8x256 .f32}

/-- The blocks of tile `t` are its blocks of the arrays. -/
structure Tile (x0 : S32768x1024.Idx → EReal) (x1 : S1024.Idx → EReal) (x2 : S1024x5632.Idx → EReal) (x3 : S3x2816.Idx → EReal)
    (x4 : S2816.Idx → EReal) (x5 : S2816x1024.Idx → EReal) (t : Fin 32) (b0 : Vec Ideal S1024x1024 .f32) (b1 : Vec Ideal S1x1024 .f32)
    (b2 : Vec Ideal S1024x5632 .bf16) (b3 : Vec Ideal S3x2816 .f32) (b4 : Vec Ideal S1x2816 .f32) (b5 : Vec Ideal S2816x1024 .bf16) :
    Prop where
  stream : ∀ (r k : Fin 1024), b0 (ix2 r k) = x0 (ix2 (tileRow t r) k)
  gain : ∀ (z : Fin 1) (k : Fin 1024), b1 (ix2 z k) = x1 (ix1 k)
  ups : ∀ (k : Fin 1024) (j : Fin 5632), b2 (ix2 k j) = x2 (ix2 k j)
  taps : ∀ (p : Fin 3) (j : Fin 2816), b3 (ix2 p j) = x3 (ix2 p j)
  bias : ∀ (z : Fin 1) (j : Fin 2816), b4 (ix2 z j) = x4 (ix1 j)
  downs : ∀ (k : Fin 2816) (j : Fin 1024), b5 (ix2 k j) = x5 (ix2 k j)

/-- The rows carried into tile `t`: the last eight of the tile before, and zeros into a batch's first tile. -/
def Carries (x0 : S32768x1024.Idx → EReal) (x1 : S1024.Idx → EReal) (x2 : S1024x5632.Idx → EReal) (t : Fin 32)
    (T : Vec Ideal S11x8x256 .f32) : Prop :=
  ∀ (p : Fin 11) (r : Fin 8) (j : Fin 256), T (ix3 p r j) = if t.val % 8 = 0 then 0 else
    FfnRead.up x0 x1 x2 (tileRow ⟨t.val - 1, by omega⟩ ⟨1016 + r.val, by omega⟩) ⟨256 * p.val + j.val, by omega⟩

/-- The up-projection of a tile's row is that of the row among all rows. -/
theorem upTile_eq (h : Tile x0 x1 x2 x3 x4 x5 t b0 b1 b2 b3 b4 b5) (r : Fin 1024) (j : Fin 5632) :
    upTile b0 b1 b2 r j = FfnRead.up x0 x1 x2 (tileRow t r) j := by
  unfold upTile FfnRead.up
  simp only [h.stream, h.gain, h.ups]

/-- The rows kept after a tile are the last eight rows of its up-projection. -/
theorem kept_eq (h : Tile x0 x1 x2 x3 x4 x5 t b0 b1 b2 b3 b4 b5) (p : Fin 11) (r : Fin 8) (j : Fin 256) :
    stack (keepChunk (k0_pay2 b0 b1) b2) (ix3 p r j)
      = FfnRead.up x0 x1 x2 (tileRow t ⟨1016 + r.val, by omega⟩) ⟨256 * p.val + j.val, by omega⟩ := by
  rw [kept_at, upTile_eq h]

/-- The rows above a tile's row are the rows above it in its batch, and zero above the batch's first row. -/
theorem above_eq (h : Tile x0 x1 x2 x3 x4 x5 t b0 b1 b2 b3 b4 b5) (hT : Carries x0 x1 x2 t T) (d : Nat) (hd : 1 ≤ d ∧ d ≤ 8)
    (r : Fin 1024) (j : Fin 2816) :
    aboveTile b0 b1 b2 T d hd r j = FfnRead.above x0 x1 x2 d (tileRow t r) ⟨j.val, by omega⟩ := by
  have hr := r.isLt
  have hv : (tileRow t r).val = t.val * 1024 + r.val := rfl
  unfold aboveTile FfnRead.above
  by_cases g : d ≤ r.val
  · rw [dif_pos g, if_pos (by rw [hv]; omega), upTile_eq h]
    congr 1
    apply Fin.ext
    show t.val * 1024 + (r.val - d) = t.val * 1024 + r.val - d
    omega
  · rw [dif_neg g, hT]
    by_cases h0 : t.val % 8 = 0
    · rw [if_pos h0, if_neg (by rw [hv]; omega)]
    · rw [if_neg h0, if_pos (by rw [hv]; omega)]
      congr 1
      · apply Fin.ext
        show (t.val - 1) * 1024 + (1016 + (8 + r.val - d)) = t.val * 1024 + r.val - d
        omega
      · apply Fin.ext
        show 256 * (j.val / 256) + j.val % 256 = j.val
        omega

/-- The residual plus the down-projection of a tile's gated array is the layer's row. -/
theorem sum_eq (h : Tile x0 x1 x2 x3 x4 x5 t b0 b1 b2 b3 b4 b5) (hT : Carries x0 x1 x2 t T) (r c : Fin 1024) :
    b0 (ix2 r c) + ∑ j, joinCols (actChunk (k0_pay2 b0 b1) b2 b3 b4 T) (ix2 r j) * b5 (ix2 j c)
      = FfnRead.sumRow x0 x1 x2 x3 x4 x5 (tileRow t r) c := by
  unfold FfnRead.sumRow FfnRead.act
  simp only [act_at, above_eq h hT, upTile_eq h, h.stream, h.taps, h.bias, h.downs]

end Cert.FfnIdeal.Block

end
-- ==== Proof.FfnValue.lean ====
/-
  What the feed-forward kernel's output array holds: at every index, the plain layer of the launch arguments.
-/
module

public import proofs.«01_k».proof.Proof.FfnTile
public import proofs.«01_k».proof.Proof.Gen.FfnIdeal.Value
public import Idealize.ShloMosaic.Lib.StableHlo.ReadAt

@[expose] public section

set_option maxRecDepth 16384

noncomputable section

namespace Cert.FfnIdeal.Blocks

open Cert.FfnIdeal Cert.FfnIdeal.Gen Cert.FfnIdeal.Block Cert.FfnIdeal.Value Idealize.ShloMosaic Idealize.ShloMosaic.TcCoe

variable (m : (ℓ : Loc nD τ sig) → Buf (Elt Ideal) ℓ) (c : Dev nD)

/-- The launch arguments, as arrays. -/
abbrev arg0 : S32768x1024.Idx → EReal := m ((c : Thread nD τ).loc main_arg0)
abbrev arg1 : S1024.Idx → EReal := m ((c : Thread nD τ).loc main_arg1)
abbrev arg2 : S1024x5632.Idx → EReal := m ((c : Thread nD τ).loc main_arg2)
abbrev arg3 : S3x2816.Idx → EReal := m ((c : Thread nD τ).loc main_arg3)
abbrev arg4 : S2816.Idx → EReal := m ((c : Thread nD τ).loc main_arg4)
abbrev arg5 : S2816x1024.Idx → EReal := m ((c : Thread nD τ).loc main_arg5)
abbrev arg6 : S1024.Idx → EReal := m ((c : Thread nD τ).loc main_arg6)

/-- Where the windows' blocks lie at a point, decided over the grid. -/
theorem index_facts : ∀ t : Fin cfg0.N,
    win0_0.index t (0 : Fin 2) = t.val ∧ win0_0.index t (1 : Fin 2) = 0 :=
  (by decide +kernel : ∀ t : Fin grid0.N, _)

theorem index_whole : ∀ t : Fin cfg0.N,
    win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- The number of a grid point. -/
abbrev num (t : Fin cfg0.N) : Fin 32 := ⟨t.val, lt_of_lt_of_eq t.isLt N_0⟩

/-- The residual stream's block. -/
theorem block0 (t : Fin cfg0.N) (r k : Fin 1024) :
    iblk (F := Ideal) m c 0 t (ix2 r k) = arg0 m c (ix2 (tileRow (num t) r) k) := by
  obtain ⟨e0, e1⟩ := index_facts t
  unfold iblk; rw [View.read_apply]
  show V (F := Ideal) m c main_arg0 _ = _
  rw [V_main_arg0]
  unfold arg0
  congr 1
  funext a; apply Fin.ext
  match a with
  | ⟨0, _⟩ => show win0_0.index t (0 : Fin 2) * 1024 + 1 * r.val = _; rw [e0, one_mul]; rfl
  | ⟨1, _⟩ => show win0_0.index t (1 : Fin 2) * 1024 + 1 * k.val = _; rw [e1, one_mul, zero_mul, zero_add]; rfl

/-! The gains, the weights and the bias as the launch hands them over: reshaped to one row, or rounded, which over the
extended reals changes nothing. -/

theorem gain_at (z : Fin 1) (j : Fin 1024) : V (F := Ideal) m c main_v0 (ix2 z j) = arg1 m c (ix1 j) := by
  unfold V arg1
  after_reads_at
  try rfl

theorem wup_at (k : Fin 1024) (j : Fin 5632) : V (F := Ideal) m c main_v1 (ix2 k j) = arg2 m c (ix2 k j) := by
  unfold V arg2
  after_reads_at
  try rfl

theorem bias_at (z : Fin 1) (j : Fin 2816) : V (F := Ideal) m c main_v2 (ix2 z j) = arg4 m c (ix1 j) := by
  unfold V arg4
  after_reads_at
  try rfl

theorem wdown_at (k : Fin 2816) (j : Fin 1024) : V (F := Ideal) m c main_v3 (ix2 k j) = arg5 m c (ix2 k j) := by
  unfold V arg5
  after_reads_at
  try rfl

theorem last_gain_at (z : Fin 1) (j : Fin 1024) : V (F := Ideal) m c main_v4 (ix2 z j) = arg6 m c (ix1 j) := by
  unfold V arg6
  after_reads_at
  try rfl

/-- The first norm's gain. -/
theorem block1 (t : Fin cfg0.N) (k : Fin 1) (j : Fin 1024) : iblk (F := Ideal) m c 1 t (ix2 k j) = arg1 m c (ix1 j) := by
  obtain ⟨e0, e1, -⟩ := index_whole t
  rw [← gain_at m c k j]
  unfold iblk; rw [View.read_apply]
  show V (F := Ideal) m c main_v0 _ = _
  congr 1
  funext a; apply Fin.ext
  match a with
  | ⟨0, _⟩ => show win0_1.index t (0 : Fin 2) * 1 + 1 * k.val = k.val; rw [e0, one_mul, zero_mul, zero_add]
  | ⟨1, _⟩ => show win0_1.index t (1 : Fin 2) * 1024 + 1 * j.val = j.val; rw [e1, one_mul, zero_mul, zero_add]

/-- The up-projection's weights. -/
theorem block2 (t : Fin cfg0.N) (k : Fin 1024) (j : Fin 5632) : iblk (F := Ideal) m c 2 t (ix2 k j) = arg2 m c (ix2 k j) := by
  obtain ⟨-, -, e0, e1, -⟩ := index_whole t
  rw [← wup_at m c k j]
  unfold iblk; rw [View.read_apply]
  show V (F := Ideal) m c main_v1 _ = _
  congr 1
  funext a; apply Fin.ext
  match a with
  | ⟨0, _⟩ => show win0_2.index t (0 : Fin 2) * 1024 + 1 * k.val = k.val; rw [e0, one_mul, zero_mul, zero_add]
  | ⟨1, _⟩ => show win0_2.index t (1 : Fin 2) * 5632 + 1 * j.val = j.val; rw [e1, one_mul, zero_mul, zero_add]

/-- The convolution's taps. -/
theorem block3 (t : Fin cfg0.N) (k : Fin 3) (j : Fin 2816) : iblk (F := Ideal) m c 3 t (ix2 k j) = arg3 m c (ix2 k j) := by
  obtain ⟨-, -, -, -, e0, e1, -⟩ := index_whole t
  skip
  unfold iblk; rw [View.read_apply]
  show V (F := Ideal) m c main_arg3 _ = _
  rw [V_main_arg3]
  unfold arg3
  congr 1
  funext a; apply Fin.ext
  match a with
  | ⟨0, _⟩ => show win0_3.index t (0 : Fin 2) * 3 + 1 * k.val = k.val; rw [e0, one_mul, zero_mul, zero_add]
  | ⟨1, _⟩ => show win0_3.index t (1 : Fin 2) * 2816 + 1 * j.val = j.val; rw [e1, one_mul, zero_mul, zero_add]

/-- The convolution's bias. -/
theorem block4 (t : Fin cfg0.N) (k : Fin 1) (j : Fin 2816) : iblk (F := Ideal) m c 4 t (ix2 k j) = arg4 m c (ix1 j) := by
  obtain ⟨-, -, -, -, -, -, e0, e1, -⟩ := index_whole t
  rw [← bias_at m c k j]
  unfold iblk; rw [View.read_apply]
  show V (F := Ideal) m c main_v2 _ = _
  congr 1
  funext a; apply Fin.ext
  match a with
  | ⟨0, _⟩ => show win0_4.index t (0 : Fin 2) * 1 + 1 * k.val = k.val; rw [e0, one_mul, zero_mul, zero_add]
  | ⟨1, _⟩ => show win0_4.index t (1 : Fin 2) * 2816 + 1 * j.val = j.val; rw [e1, one_mul, zero_mul, zero_add]

/-- The down-projection's weights. -/
theorem block5 (t : Fin cfg0.N) (k : Fin 2816) (j : Fin 1024) : iblk (F := Ideal) m c 5 t (ix2 k j) = arg5 m c (ix2 k j) := by
  obtain ⟨-, -, -, -, -, -, -, -, e0, e1, -⟩ := index_whole t
  rw [← wdown_at m c k j]
  unfold iblk; rw [View.read_apply]
  show V (F := Ideal) m c main_v3 _ = _
  congr 1
  funext a; apply Fin.ext
  match a with
  | ⟨0, _⟩ => show win0_5.index t (0 : Fin 2) * 2816 + 1 * k.val = k.val; rw [e0, one_mul, zero_mul, zero_add]
  | ⟨1, _⟩ => show win0_5.index t (1 : Fin 2) * 1024 + 1 * j.val = j.val; rw [e1, one_mul, zero_mul, zero_add]

/-- The last norm's gain. -/
theorem block6 (t : Fin cfg0.N) (k : Fin 1) (j : Fin 1024) : iblk (F := Ideal) m c 6 t (ix2 k j) = arg6 m c (ix1 j) := by
  obtain ⟨-, -, -, -, -, -, -, -, -, -, e0, e1⟩ := index_whole t
  rw [← last_gain_at m c k j]
  unfold iblk; rw [View.read_apply]
  show V (F := Ideal) m c main_v4 _ = _
  congr 1
  funext a; apply Fin.ext
  match a with
  | ⟨0, _⟩ => show win0_6.index t (0 : Fin 2) * 1 + 1 * k.val = k.val; rw [e0, one_mul, zero_mul, zero_add]
  | ⟨1, _⟩ => show win0_6.index t (1 : Fin 2) * 1024 + 1 * j.val = j.val; rw [e1, one_mul, zero_mul, zero_add]

/-- A point's blocks are its tile's. -/
theorem tile (t : Fin cfg0.N) : Tile (arg0 m c) (arg1 m c) (arg2 m c) (arg3 m c) (arg4 m c) (arg5 m c) (num t)
    (iblk (F := Ideal) m c 0 t) (iblk (F := Ideal) m c 1 t) (iblk (F := Ideal) m c 2 t) (iblk (F := Ideal) m c 3 t)
    (iblk (F := Ideal) m c 4 t) (iblk (F := Ideal) m c 5 t) :=
  ⟨block0 m c t, block1 m c t, block2 m c t, block3 m c t, block4 m c t, block5 m c t⟩

/-- The rows kept after a point. -/
theorem rows_after (t : Fin cfg0.N) : (outsAt0 (F := Ideal) m c t.val t.isLt).2
    = stack (keepChunk (k0_pay2 (iblk (F := Ideal) m c 0 t) (iblk (F := Ideal) m c 1 t)) (iblk (F := Ideal) m c 2 t)) := by
  by_cases h0 : t.val % 8 = 0
  · rw [outsAt0_A m c t h0]
    dsimp only
    rw [tail_A]
  · rw [outsAt0_B m c t h0]
    dsimp only
    rw [tail_B]

/-- The rows a point finds carried: those its predecessor kept, and zeros at a batch's first tile. -/
def carriedIn (t : Fin cfg0.N) : Vec Ideal S11x8x256 .f32 :=
  if t.val % 8 = 0 then k0_pay1 (F := Ideal) else (outsAt0 (F := Ideal) m c (t.val - 1) (by have := t.isLt; omega)).2

theorem carries (t : Fin cfg0.N) : Carries (arg0 m c) (arg1 m c) (arg2 m c) (num t) (carriedIn m c t) := by
  intro p r j
  unfold carriedIn
  by_cases h0 : t.val % 8 = 0
  · rw [if_pos h0, if_pos h0, zero_at]
  · have hp : t.val - 1 < cfg0.N := by have := t.isLt; omega
    rw [if_neg h0, if_neg h0]
    exact (congrFun (rows_after m c ⟨t.val - 1, hp⟩) _).trans (kept_eq (tile m c ⟨t.val - 1, hp⟩) p r j)

/-- The output block after a point, from the rows it found carried. -/
theorem out_block (t : Fin cfg0.N) : (outsAt0 (F := Ideal) m c t.val t.isLt).1
    = outBlock (iblk (F := Ideal) m c 0 t) (iblk (F := Ideal) m c 5 t) (iblk (F := Ideal) m c 6 t)
        (joinCols (actChunk (k0_pay2 (iblk (F := Ideal) m c 0 t) (iblk (F := Ideal) m c 1 t)) (iblk (F := Ideal) m c 2 t)
          (iblk (F := Ideal) m c 3 t) (iblk (F := Ideal) m c 4 t) (carriedIn m c t))) := by
  unfold carriedIn
  by_cases h0 : t.val % 8 = 0
  · rw [outsAt0_A m c t h0, if_pos h0]
    dsimp only
    rw [out_A]
  · rw [outsAt0_B m c t h0, if_neg h0]
    dsimp only
    rw [out_B]

/-- The kernel's output array, at an index. -/
theorem array_at (n : Fin 32768) (j : Fin 1024) : G7 (F := Ideal) m c (ix2 n j) = FfnRead.ffnOut (arg0 m c) (arg1 m c) (arg2 m c)
    (arg3 m c) (arg4 m c) (arg5 m c) (arg6 m c) n j := by
  have h0 := n.isLt
  have h1 := j.isLt
  have hp : pt7Of (ix2 n j) = n.val / 1024 := by
    show 1 * (n.val / 1024 - 0) + 1 * (j.val / 1024 - 0) = _; omega
  have hN : n.val / 1024 < cfg0.N := lt_of_lt_of_eq (by omega) N_0.symm
  have hl : loc7Of (ix2 n j) = (ix2 ⟨n.val % 1024, by omega⟩ j : S1024x1024.Idx) := by
    funext a; apply Fin.ext
    match a with
    | ⟨0, _⟩ => rfl
    | ⟨1, _⟩ => show j.val % 1024 = j.val; omega
  unfold G7
  rw [dif_pos (by rw [hp]; exact hN), hl, fold0_congr m c _ _ (n.val / 1024) (by omega) hp, ← outsAt0_sweep m c _ hN]
  refine (congrFun (out_block m c ⟨n.val / 1024, hN⟩) _).trans ?_
  rw [outBlock_at]
  have er : tileRow (num ⟨n.val / 1024, hN⟩) ⟨n.val % 1024, by omega⟩ = n :=
    Fin.ext (by show n.val / 1024 * 1024 + n.val % 1024 = n.val; omega)
  unfold FfnRead.ffnOut
  simp only [sum_eq (tile m c _) (carries m c _), block6, er]

end Cert.FfnIdeal.Blocks

end
-- ==== Proof.FfnClaims.lean ====
/-
  The feed-forward's value claims: no constant of it is renamed, and the kernel's result is the reference's.
-/
module

public import proofs.«01_k».proof.Defs
public import proofs.«01_k».proof.Proof.FfnValue
public import proofs.«01_k».proof.Proof.Gen.Ffn.Frame
public import proofs.«01_k».proof.Proof.Gen.FfnRefIdeal.Run

@[expose] public section

noncomputable section

namespace Cert.Proof

open Idealize.ShloMosaic Idealize.ShloMosaic.TcCoe Idealize.SL.Sem

/-- From memories that agree on the arguments, the kernel's array is the reference's result. -/
theorem ffn_eq (m : (ℓ : Loc Cert.FfnIdeal.nD Cert.FfnIdeal.τ Cert.FfnIdeal.sig) → Buf (Elt Ideal) ℓ) (c : Dev Cert.FfnIdeal.nD)
    (x0 : Cert.FfnIdeal.S32768x1024.Idx → EReal) (x1 : Cert.FfnIdeal.S1024.Idx → EReal) (x2 : Cert.FfnIdeal.S1024x5632.Idx → EReal)
    (x3 : Cert.FfnIdeal.S3x2816.Idx → EReal) (x4 : Cert.FfnIdeal.S2816.Idx → EReal) (x5 : Cert.FfnIdeal.S2816x1024.Idx → EReal)
    (x6 : Cert.FfnIdeal.S1024.Idx → EReal)
    (h0 : x0 = Cert.FfnIdeal.Blocks.arg0 m c) (h1 : x1 = Cert.FfnIdeal.Blocks.arg1 m c) (h2 : x2 = Cert.FfnIdeal.Blocks.arg2 m c)
    (h3 : x3 = Cert.FfnIdeal.Blocks.arg3 m c) (h4 : x4 = Cert.FfnIdeal.Blocks.arg4 m c) (h5 : x5 = Cert.FfnIdeal.Blocks.arg5 m c)
    (h6 : x6 = Cert.FfnIdeal.Blocks.arg6 m c) :
    Cert.FfnRefIdeal.Read.val_main_v60 (F := Ideal) x0 x1 x2 x3 x4 x5 x6 = Cert.FfnIdeal.Value.G7 (F := Ideal) m c := by
  subst h0 h1 h2 h3 h4 h5 h6
  funext i
  obtain ⟨n, j, rfl⟩ : ∃ (n : Fin 32768) (j : Fin 1024), i = ix2 n j := ⟨i 0, i 1, eq_ix2 i⟩
  rw [Cert.FfnRead.result_at]
  exact (Cert.FfnIdeal.Blocks.array_at m c n j).symm

/-- No constant of the feed-forward is renamed. -/
theorem preserves_ffn : Cert.preserves_Ffn_FfnIdeal := trivial

/-- The feed-forward kernel computes the reference's feed-forward layer over the extended reals. -/
theorem algebraic_ffn : @Cert.algebraic_FfnIdeal_FfnRefIdeal Cert.FfnIdeal.Gen.facts Cert.FfnRefIdeal.Gen.facts :=
  fun m ρ m' ρ' _ hag => ⟨fun c => Cert.FfnIdeal.Value.G7 (F := Ideal) m c, Cert.FfnIdeal.Value.run m ρ,
    (θ_run _ _ _).mono (fun _ h c => ⟨(h c).1.trans ((Cert.FfnRefIdeal.Read.val_main_v60_eq m' c).trans
      (ffn_eq m c _ _ _ _ _ _ _ (hag c).1 (hag c).2.1 (hag c).2.2.1 (hag c).2.2.2.1 (hag c).2.2.2.2.1 (hag c).2.2.2.2.2.1
        (hag c).2.2.2.2.2.2)), (h c).2⟩) (Cert.FfnRefIdeal.Value.run m' ρ')⟩

/-- The kernel, as written and idealized, leaves its arguments and every semaphore as it found them. -/
theorem frame_ffn : @Cert.quiescent_Ffn Cert.Ffn.Gen.facts := fun m ρ _ => Cert.Ffn.Gen.frame m ρ
theorem frame_ffn_ideal : @Cert.quiescent_FfnIdeal Cert.FfnIdeal.Gen.facts := fun m ρ _ => Cert.FfnIdeal.Gen.frame m ρ

/-- The reference leaves its arguments as it found them; it has no semaphores. -/
theorem frame_ffn_ref : @Cert.quiescent_FfnRefIdeal Cert.FfnRefIdeal.Gen.facts := fun m ρ _ =>
  (θ_run Cert.FfnRefIdeal.defs _ _).mono (fun r h => ⟨fun c => (h c).2, Idealize.ShloMosaic.sem_eq_zero_of_no_sems (by decide) r.2⟩)
    (Cert.FfnRefIdeal.Value.run (F := Ideal) m ρ)

end Cert.Proof

end
-- ==== Proof.MidBlock.lean ====
/-
  What one grid point of the first layer's feed-forward leaves in its output block and in its carried rows: the chunks, the
  gated array and the kept rows are those of the last layer's feed-forward, and only the output block has no norm.
-/
module

public import proofs.«01_k».proof.Proof.FfnBlock
public import proofs.«01_k».proof.Proof.Gen.MidIdeal.Value

@[expose] public section

set_option maxRecDepth 16384

noncomputable section

namespace Cert.MidIdeal.Block

open Cert.MidIdeal Cert.MidIdeal.Gen Idealize.ShloMosaic Idealize.ShloMosaic.TcCoe Idealize.SL.Sem
open Cert.FfnIdeal.Block (hz2 actChunk keepChunk joinCols stack chunks_read rows_kept)

variable {F : FTy → Type} [FloatOps F]

/-- At a point whose rows were carried from the tile before: the output block. -/
theorem out_B (c : Dev nD) (i : grid0.Coords)
    (a2 : Memref sig .tc .vmem S1024x1024 .f32) (h2 : a2.IsWhole) (a3 : Memref sig .tc .vmem S1x1024 .f32) (h3 : a3.IsWhole) (a4 : Memref sig .tc .vmem S1024x5632 .bf16) (h4 : a4.IsWhole) (a5 : Memref sig .tc .vmem S3x2816 .f32) (h5 : a5.IsWhole) (a6 : Memref sig .tc .vmem S1x2816 .f32) (h6 : a6.IsWhole) (a7 : Memref sig .tc .vmem S2816x1024 .bf16) (h7 : a7.IsWhole) (a8 : Memref sig .tc .vmem S1x1024 .f32) (h8 : a8.IsWhole) (a9 : Memref sig .tc .vmem S1024x1024 .f32) (h9 : a9.IsWhole) (a10 : Memref sig .tc .vmem S1024x2816 .bf16) (h10 : a10.IsWhole) (a11 : Memref sig .tc .vmem S11x8x256 .f32) (h11 : a11.IsWhole)
    (hc : ¬cond0_0 i) (x0 : Vec F S1024x1024 .f32) (x1 : Vec F S1x1024 .f32) (x2 : Vec F S1024x5632 .bf16) (x3 : Vec F S3x2816 .f32)
    (x4 : Vec F S1x2816 .f32) (x5 : Vec F S2816x1024 .bf16) (x6 : Vec F S1x1024 .f32) (T : Vec F S11x8x256 .f32) :
    out0_B_7 c i a2 h2 a3 h3 a4 h4 a5 h5 a6 h6 a7 h7 a8 h8 a9 h9 a10 h10 a11 h11 hc x0 x1 x2 x3 x4 x5 x6 T
      = k0_pay98 x0 (joinCols (actChunk (Cert.FfnIdeal.Gen.k0_pay2 x0 x1) x2 x3 x4 T)) x5 := by
  unfold out0_B_7
  rw [View.read_writes_eq_canon _ _ _ (cover0_B_7 c i a2 h2 a3 h3 a4 h4 a5 h5 a6 h6 a7 h7 a8 h8 a9 h9 a10 h10 a11 h11 hc x0 x1 x2 x3 x4 x5 x6 T)]
  unfold kernelRun0_B
  dsimp only
  sl_unfold_words
  rw [View.canon_unit_zero hz2]
  simp only [View.readAt_eq_ld, h2.read_unread, h3.read_unread, h4.read_unread, h5.read_unread, h6.read_unread, h7.read_unread,
    h8.read_unread, h11.read_unread, View.ld_unit_zero (S := S1024x1024) hz2, View.ld_unit_zero (S := S1x1024) hz2,
    View.ld_unit_zero (S := S2816x1024) hz2]
  exact congrArg (k0_pay98 x0 · x5) (chunks_read _ (actChunk (Cert.FfnIdeal.Gen.k0_pay2 x0 x1) x2 x3 x4 T) _ _ _ _ _ _ _ _ _ _ _  rfl rfl rfl rfl rfl rfl rfl rfl rfl rfl rfl )

/-- … and the rows kept. -/
theorem tail_B (c : Dev nD) (i : grid0.Coords)
    (a2 : Memref sig .tc .vmem S1024x1024 .f32) (h2 : a2.IsWhole) (a3 : Memref sig .tc .vmem S1x1024 .f32) (h3 : a3.IsWhole) (a4 : Memref sig .tc .vmem S1024x5632 .bf16) (h4 : a4.IsWhole) (a5 : Memref sig .tc .vmem S3x2816 .f32) (h5 : a5.IsWhole) (a6 : Memref sig .tc .vmem S1x2816 .f32) (h6 : a6.IsWhole) (a7 : Memref sig .tc .vmem S2816x1024 .bf16) (h7 : a7.IsWhole) (a8 : Memref sig .tc .vmem S1x1024 .f32) (h8 : a8.IsWhole) (a9 : Memref sig .tc .vmem S1024x1024 .f32) (h9 : a9.IsWhole) (a10 : Memref sig .tc .vmem S1024x2816 .bf16) (h10 : a10.IsWhole) (a11 : Memref sig .tc .vmem S11x8x256 .f32) (h11 : a11.IsWhole)
    (hc : ¬cond0_0 i) (x0 : Vec F S1024x1024 .f32) (x1 : Vec F S1x1024 .f32) (x2 : Vec F S1024x5632 .bf16) (x3 : Vec F S3x2816 .f32)
    (x4 : Vec F S1x2816 .f32) (x5 : Vec F S2816x1024 .bf16) (x6 : Vec F S1x1024 .f32) (T : Vec F S11x8x256 .f32) :
    sout0_B_1 c i a2 h2 a3 h3 a4 h4 a5 h5 a6 h6 a7 h7 a8 h8 a9 h9 a10 h10 a11 h11 hc x0 x1 x2 x3 x4 x5 x6 T = stack (keepChunk (Cert.FfnIdeal.Gen.k0_pay2 x0 x1) x2) := by
  unfold sout0_B_1
  rw [View.read_writes_eq_canon _ _ _ (scover0_B_1 c i a2 h2 a3 h3 a4 h4 a5 h5 a6 h6 a7 h7 a8 h8 a9 h9 a10 h10 a11 h11 hc x0 x1 x2 x3 x4 x5 x6 T)]
  unfold kernelRun0_B
  dsimp only
  sl_unfold_words
  simp only [View.readAt_eq_ld, h2.read_unread, h3.read_unread, h4.read_unread, h5.read_unread, h6.read_unread, h7.read_unread,
    h8.read_unread, h11.read_unread, View.ld_unit_zero (S := S1024x1024) hz2, View.ld_unit_zero (S := S1x1024) hz2,
    View.ld_unit_zero (S := S2816x1024) hz2]
  exact rows_kept [] (keepChunk (Cert.FfnIdeal.Gen.k0_pay2 x0 x1) x2) _ _ _ _ _ _ _ _ _ _ _  rfl rfl rfl rfl rfl rfl rfl rfl rfl rfl rfl

/-- At a batch's first point, whose carried rows are zeroed: the output block. -/
theorem out_A (c : Dev nD) (i : grid0.Coords)
    (a2 : Memref sig .tc .vmem S1024x1024 .f32) (h2 : a2.IsWhole) (a3 : Memref sig .tc .vmem S1x1024 .f32) (h3 : a3.IsWhole) (a4 : Memref sig .tc .vmem S1024x5632 .bf16) (h4 : a4.IsWhole) (a5 : Memref sig .tc .vmem S3x2816 .f32) (h5 : a5.IsWhole) (a6 : Memref sig .tc .vmem S1x2816 .f32) (h6 : a6.IsWhole) (a7 : Memref sig .tc .vmem S2816x1024 .bf16) (h7 : a7.IsWhole) (a8 : Memref sig .tc .vmem S1x1024 .f32) (h8 : a8.IsWhole) (a9 : Memref sig .tc .vmem S1024x1024 .f32) (h9 : a9.IsWhole) (a10 : Memref sig .tc .vmem S1024x2816 .bf16) (h10 : a10.IsWhole) (a11 : Memref sig .tc .vmem S11x8x256 .f32) (h11 : a11.IsWhole)
    (hc : cond0_0 i) (x0 : Vec F S1024x1024 .f32) (x1 : Vec F S1x1024 .f32) (x2 : Vec F S1024x5632 .bf16) (x3 : Vec F S3x2816 .f32)
    (x4 : Vec F S1x2816 .f32) (x5 : Vec F S2816x1024 .bf16) (x6 : Vec F S1x1024 .f32) :
    out0_A_7 c i a2 h2 a3 h3 a4 h4 a5 h5 a6 h6 a7 h7 a8 h8 a9 h9 a10 h10 a11 h11 hc x0 x1 x2 x3 x4 x5 x6
      = k0_pay98 x0 (joinCols (actChunk (Cert.FfnIdeal.Gen.k0_pay2 x0 x1) x2 x3 x4 Cert.FfnIdeal.Gen.k0_pay1)) x5 := by
  unfold out0_A_7
  rw [View.read_writes_eq_canon _ _ _ (cover0_A_7 c i a2 h2 a3 h3 a4 h4 a5 h5 a6 h6 a7 h7 a8 h8 a9 h9 a10 h10 a11 h11 hc x0 x1 x2 x3 x4 x5 x6)]
  unfold kernelRun0_A
  dsimp only
  sl_unfold_words
  rw [View.canon_unit_zero hz2]
  simp only [View.readAt_eq_ld, h2.read_unread, h3.read_unread, h4.read_unread, h5.read_unread, h6.read_unread, h7.read_unread,
    h8.read_unread, View.ld_unit_zero (S := S1024x1024) hz2, View.ld_unit_zero (S := S1x1024) hz2,
    View.ld_unit_zero (S := S2816x1024) hz2]
  simp (disch := decide) only [↓ View.readCov_skip, ↓ View.readCov_fill]
  exact congrArg (k0_pay98 x0 · x5) (chunks_read _ (actChunk (Cert.FfnIdeal.Gen.k0_pay2 x0 x1) x2 x3 x4 Cert.FfnIdeal.Gen.k0_pay1) _ _ _ _ _ _ _ _ _ _ _  rfl rfl rfl rfl rfl rfl rfl rfl rfl rfl rfl )

/-- … and the rows kept. -/
theorem tail_A (c : Dev nD) (i : grid0.Coords)
    (a2 : Memref sig .tc .vmem S1024x1024 .f32) (h2 : a2.IsWhole) (a3 : Memref sig .tc .vmem S1x1024 .f32) (h3 : a3.IsWhole) (a4 : Memref sig .tc .vmem S1024x5632 .bf16) (h4 : a4.IsWhole) (a5 : Memref sig .tc .vmem S3x2816 .f32) (h5 : a5.IsWhole) (a6 : Memref sig .tc .vmem S1x2816 .f32) (h6 : a6.IsWhole) (a7 : Memref sig .tc .vmem S2816x1024 .bf16) (h7 : a7.IsWhole) (a8 : Memref sig .tc .vmem S1x1024 .f32) (h8 : a8.IsWhole) (a9 : Memref sig .tc .vmem S1024x1024 .f32) (h9 : a9.IsWhole) (a10 : Memref sig .tc .vmem S1024x2816 .bf16) (h10 : a10.IsWhole) (a11 : Memref sig .tc .vmem S11x8x256 .f32) (h11 : a11.IsWhole)
    (hc : cond0_0 i) (x0 : Vec F S1024x1024 .f32) (x1 : Vec F S1x1024 .f32) (x2 : Vec F S1024x5632 .bf16) (x3 : Vec F S3x2816 .f32)
    (x4 : Vec F S1x2816 .f32) (x5 : Vec F S2816x1024 .bf16) (x6 : Vec F S1x1024 .f32) :
    sout0_A_1 c i a2 h2 a3 h3 a4 h4 a5 h5 a6 h6 a7 h7 a8 h8 a9 h9 a10 h10 a11 h11 hc x0 x1 x2 x3 x4 x5 x6 = stack (keepChunk (Cert.FfnIdeal.Gen.k0_pay2 x0 x1) x2) := by
  unfold sout0_A_1
  rw [View.read_writes_eq_canon _ _ _ (scover0_A_1 c i a2 h2 a3 h3 a4 h4 a5 h5 a6 h6 a7 h7 a8 h8 a9 h9 a10 h10 a11 h11 hc x0 x1 x2 x3 x4 x5 x6)]
  unfold kernelRun0_A
  dsimp only
  sl_unfold_words
  simp only [View.readAt_eq_ld, h2.read_unread, h3.read_unread, h4.read_unread, h5.read_unread, h6.read_unread, h7.read_unread,
    h8.read_unread, View.ld_unit_zero (S := S1024x1024) hz2, View.ld_unit_zero (S := S1x1024) hz2,
    View.ld_unit_zero (S := S2816x1024) hz2]
  exact rows_kept [_] (keepChunk (Cert.FfnIdeal.Gen.k0_pay2 x0 x1) x2) _ _ _ _ _ _ _ _ _ _ _  rfl rfl rfl rfl rfl rfl rfl rfl rfl rfl rfl

end Cert.MidIdeal.Block

end
-- ==== Proof.MidValue.lean ====
/-
  What the output array of the first layer's feed-forward holds: at every index, the plain layer of the launch arguments.
-/
module

public import proofs.«01_k».proof.Proof.FfnTile
public import proofs.«01_k».proof.Proof.MidBlock
public import proofs.«01_k».proof.Proof.Gen.MidIdeal.Value
public import Idealize.ShloMosaic.Lib.StableHlo.ReadAt

@[expose] public section

set_option maxRecDepth 16384

noncomputable section

namespace Cert.MidIdeal.Blocks

open Cert.MidIdeal Cert.MidIdeal.Gen Cert.MidIdeal.Block Cert.MidIdeal.Value Idealize.ShloMosaic Idealize.ShloMosaic.TcCoe
open Cert.FfnIdeal.Block (actChunk keepChunk joinCols stack Tile Carries tileRow kept_eq sum_eq zero_at)

variable (m : (ℓ : Loc nD τ sig) → Buf (Elt Ideal) ℓ) (c : Dev nD)

/-- The launch arguments, as arrays. -/
abbrev arg0 : S32768x1024.Idx → EReal := m ((c : Thread nD τ).loc main_arg0)
abbrev arg1 : S1024.Idx → EReal := m ((c : Thread nD τ).loc main_arg1)
abbrev arg2 : S1024x5632.Idx → EReal := m ((c : Thread nD τ).loc main_arg2)
abbrev arg3 : S3x2816.Idx → EReal := m ((c : Thread nD τ).loc main_arg3)
abbrev arg4 : S2816.Idx → EReal := m ((c : Thread nD τ).loc main_arg4)
abbrev arg5 : S2816x1024.Idx → EReal := m ((c : Thread nD τ).loc main_arg5)

/-- Where the windows' blocks lie at a point, decided over the grid. -/
theorem index_facts : ∀ t : Fin cfg0.N,
    win0_0.index t (0 : Fin 2) = t.val ∧ win0_0.index t (1 : Fin 2) = 0 :=
  (by decide +kernel : ∀ t : Fin grid0.N, _)

theorem index_whole : ∀ t : Fin cfg0.N,
    win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The number of a grid point. -/
abbrev num (t : Fin cfg0.N) : Fin 32 := ⟨t.val, lt_of_lt_of_eq t.isLt N_0⟩

/-- The residual stream's block. -/
theorem block0 (t : Fin cfg0.N) (r k : Fin 1024) :
    iblk (F := Ideal) m c 0 t (ix2 r k) = arg0 m c (ix2 (tileRow (num t) r) k) := by
  obtain ⟨e0, e1⟩ := index_facts t
  unfold iblk; rw [View.read_apply]
  show V (F := Ideal) m c main_arg0 _ = _
  rw [V_main_arg0]
  unfold arg0
  congr 1
  funext a; apply Fin.ext
  match a with
  | ⟨0, _⟩ => show win0_0.index t (0 : Fin 2) * 1024 + 1 * r.val = _; rw [e0, one_mul]; rfl
  | ⟨1, _⟩ => show win0_0.index t (1 : Fin 2) * 1024 + 1 * k.val = _; rw [e1, one_mul, zero_mul, zero_add]; rfl

/-! The gains, the weights and the bias as the launch hands them over: reshaped to one row, or rounded, which over the
extended reals changes nothing. -/

theorem gain_at (z : Fin 1) (j : Fin 1024) : V (F := Ideal) m c main_v0 (ix2 z j) = arg1 m c (ix1 j) := by
  unfold V arg1
  after_reads_at
  try rfl

theorem wup_at (k : Fin 1024) (j : Fin 5632) : V (F := Ideal) m c main_v1 (ix2 k j) = arg2 m c (ix2 k j) := by
  unfold V arg2
  after_reads_at
  try rfl

theorem bias_at (z : Fin 1) (j : Fin 2816) : V (F := Ideal) m c main_v2 (ix2 z j) = arg4 m c (ix1 j) := by
  unfold V arg4
  after_reads_at
  try rfl

theorem wdown_at (k : Fin 2816) (j : Fin 1024) : V (F := Ideal) m c main_v3 (ix2 k j) = arg5 m c (ix2 k j) := by
  unfold V arg5
  after_reads_at
  try rfl

/-- The first norm's gain. -/
theorem block1 (t : Fin cfg0.N) (k : Fin 1) (j : Fin 1024) : iblk (F := Ideal) m c 1 t (ix2 k j) = arg1 m c (ix1 j) := by
  obtain ⟨e0, e1, -⟩ := index_whole t
  rw [← gain_at m c k j]
  unfold iblk; rw [View.read_apply]
  show V (F := Ideal) m c main_v0 _ = _
  congr 1
  funext a; apply Fin.ext
  match a with
  | ⟨0, _⟩ => show win0_1.index t (0 : Fin 2) * 1 + 1 * k.val = k.val; rw [e0, one_mul, zero_mul, zero_add]
  | ⟨1, _⟩ => show win0_1.index t (1 : Fin 2) * 1024 + 1 * j.val = j.val; rw [e1, one_mul, zero_mul, zero_add]

/-- The up-projection's weights. -/
theorem block2 (t : Fin cfg0.N) (k : Fin 1024) (j : Fin 5632) : iblk (F := Ideal) m c 2 t (ix2 k j) = arg2 m c (ix2 k j) := by
  obtain ⟨-, -, e0, e1, -⟩ := index_whole t
  rw [← wup_at m c k j]
  unfold iblk; rw [View.read_apply]
  show V (F := Ideal) m c main_v1 _ = _
  congr 1
  funext a; apply Fin.ext
  match a with
  | ⟨0, _⟩ => show win0_2.index t (0 : Fin 2) * 1024 + 1 * k.val = k.val; rw [e0, one_mul, zero_mul, zero_add]
  | ⟨1, _⟩ => show win0_2.index t (1 : Fin 2) * 5632 + 1 * j.val = j.val; rw [e1, one_mul, zero_mul, zero_add]

/-- The convolution's taps. -/
theorem block3 (t : Fin cfg0.N) (k : Fin 3) (j : Fin 2816) : iblk (F := Ideal) m c 3 t (ix2 k j) = arg3 m c (ix2 k j) := by
  obtain ⟨-, -, -, -, e0, e1, -⟩ := index_whole t
  skip
  unfold iblk; rw [View.read_apply]
  show V (F := Ideal) m c main_arg3 _ = _
  rw [V_main_arg3]
  unfold arg3
  congr 1
  funext a; apply Fin.ext
  match a with
  | ⟨0, _⟩ => show win0_3.index t (0 : Fin 2) * 3 + 1 * k.val = k.val; rw [e0, one_mul, zero_mul, zero_add]
  | ⟨1, _⟩ => show win0_3.index t (1 : Fin 2) * 2816 + 1 * j.val = j.val; rw [e1, one_mul, zero_mul, zero_add]

/-- The convolution's bias. -/
theorem block4 (t : Fin cfg0.N) (k : Fin 1) (j : Fin 2816) : iblk (F := Ideal) m c 4 t (ix2 k j) = arg4 m c (ix1 j) := by
  obtain ⟨-, -, -, -, -, -, e0, e1, -⟩ := index_whole t
  rw [← bias_at m c k j]
  unfold iblk; rw [View.read_apply]
  show V (F := Ideal) m c main_v2 _ = _
  congr 1
  funext a; apply Fin.ext
  match a with
  | ⟨0, _⟩ => show win0_4.index t (0 : Fin 2) * 1 + 1 * k.val = k.val; rw [e0, one_mul, zero_mul, zero_add]
  | ⟨1, _⟩ => show win0_4.index t (1 : Fin 2) * 2816 + 1 * j.val = j.val; rw [e1, one_mul, zero_mul, zero_add]

/-- The down-projection's weights. -/
theorem block5 (t : Fin cfg0.N) (k : Fin 2816) (j : Fin 1024) : iblk (F := Ideal) m c 5 t (ix2 k j) = arg5 m c (ix2 k j) := by
  obtain ⟨-, -, -, -, -, -, -, -, e0, e1⟩ := index_whole t
  rw [← wdown_at m c k j]
  unfold iblk; rw [View.read_apply]
  show V (F := Ideal) m c main_v3 _ = _
  congr 1
  funext a; apply Fin.ext
  match a with
  | ⟨0, _⟩ => show win0_5.index t (0 : Fin 2) * 2816 + 1 * k.val = k.val; rw [e0, one_mul, zero_mul, zero_add]
  | ⟨1, _⟩ => show win0_5.index t (1 : Fin 2) * 1024 + 1 * j.val = j.val; rw [e1, one_mul, zero_mul, zero_add]

/-- A point's blocks are its tile's. -/
theorem tile (t : Fin cfg0.N) : Tile (arg0 m c) (arg1 m c) (arg2 m c) (arg3 m c) (arg4 m c) (arg5 m c) (num t)
    (iblk (F := Ideal) m c 0 t) (iblk (F := Ideal) m c 1 t) (iblk (F := Ideal) m c 2 t) (iblk (F := Ideal) m c 3 t)
    (iblk (F := Ideal) m c 4 t) (iblk (F := Ideal) m c 5 t) :=
  ⟨block0 m c t, block1 m c t, block2 m c t, block3 m c t, block4 m c t, block5 m c t⟩

/-- The rows kept after a point. -/
theorem rows_after (t : Fin cfg0.N) : (outsAt0 (F := Ideal) m c t.val t.isLt).2
    = stack (keepChunk (Cert.FfnIdeal.Gen.k0_pay2 (iblk (F := Ideal) m c 0 t) (iblk (F := Ideal) m c 1 t)) (iblk (F := Ideal) m c 2 t)) := by
  by_cases h0 : t.val % 8 = 0
  · rw [outsAt0_A m c t h0]
    dsimp only
    rw [tail_A]
  · rw [outsAt0_B m c t h0]
    dsimp only
    rw [tail_B]

/-- The rows a point finds carried: those its predecessor kept, and zeros at a batch's first tile. -/
def carriedIn (t : Fin cfg0.N) : Vec Ideal S11x8x256 .f32 :=
  if t.val % 8 = 0 then Cert.FfnIdeal.Gen.k0_pay1 (F := Ideal) else (outsAt0 (F := Ideal) m c (t.val - 1) (by have := t.isLt; omega)).2

theorem carries (t : Fin cfg0.N) : Carries (arg0 m c) (arg1 m c) (arg2 m c) (num t) (carriedIn m c t) := by
  intro p r j
  unfold carriedIn
  by_cases h0 : t.val % 8 = 0
  · rw [if_pos h0, if_pos h0, zero_at]
  · have hp : t.val - 1 < cfg0.N := by have := t.isLt; omega
    rw [if_neg h0, if_neg h0]
    exact (congrFun (rows_after m c ⟨t.val - 1, hp⟩) _).trans (kept_eq (tile m c ⟨t.val - 1, hp⟩) p r j)

/-- The output block after a point, from the rows it found carried. -/
theorem out_block (t : Fin cfg0.N) : (outsAt0 (F := Ideal) m c t.val t.isLt).1
    = k0_pay98 (iblk (F := Ideal) m c 0 t) (joinCols (actChunk (Cert.FfnIdeal.Gen.k0_pay2 (iblk (F := Ideal) m c 0 t) (iblk (F := Ideal) m c 1 t)) (iblk (F := Ideal) m c 2 t)
        (iblk (F := Ideal) m c 3 t) (iblk (F := Ideal) m c 4 t) (carriedIn m c t))) (iblk (F := Ideal) m c 5 t) := by
  unfold carriedIn
  by_cases h0 : t.val % 8 = 0
  · rw [outsAt0_A m c t h0, if_pos h0]
    dsimp only
    rw [out_A]
  · rw [outsAt0_B m c t h0, if_neg h0]
    dsimp only
    rw [out_B]

/-- The output block at an index: the residual plus the down-projection of the gated array. -/
theorem outBlock_at (x0 : Vec Ideal S1024x1024 .f32) (x5 : Vec Ideal S2816x1024 .bf16) (A : Vec Ideal S1024x2816 .bf16) (r c : Fin 1024) :
    k0_pay98 x0 A x5 (ix2 r c) = x0 (ix2 r c) + ∑ j, A (ix2 r j) * x5 (ix2 j c) := by
  pointwise [k0_pay98]

/-- The kernel's output array, at an index. -/
theorem array_at (n : Fin 32768) (j : Fin 1024) : G7 (F := Ideal) m c (ix2 n j) = FfnRead.sumRow (arg0 m c) (arg1 m c) (arg2 m c)
    (arg3 m c) (arg4 m c) (arg5 m c) n j := by
  have h0 := n.isLt
  have h1 := j.isLt
  have hp : pt7Of (ix2 n j) = n.val / 1024 := by
    show 1 * (n.val / 1024 - 0) + 1 * (j.val / 1024 - 0) = _; omega
  have hN : n.val / 1024 < cfg0.N := lt_of_lt_of_eq (by omega) N_0.symm
  have hl : loc7Of (ix2 n j) = (ix2 ⟨n.val % 1024, by omega⟩ j : S1024x1024.Idx) := by
    funext a; apply Fin.ext
    match a with
    | ⟨0, _⟩ => rfl
    | ⟨1, _⟩ => show j.val % 1024 = j.val; omega
  unfold G7
  rw [dif_pos (by rw [hp]; exact hN), hl, fold0_congr m c _ _ (n.val / 1024) (by omega) hp, ← outsAt0_sweep m c _ hN]
  refine (congrFun (out_block m c ⟨n.val / 1024, hN⟩) _).trans ?_
  rw [outBlock_at]
  have er : tileRow (num ⟨n.val / 1024, hN⟩) ⟨n.val % 1024, by omega⟩ = n :=
    Fin.ext (by show n.val / 1024 * 1024 + n.val % 1024 = n.val; omega)
  rw [sum_eq (tile m c _) (carries m c _), er]

end Cert.MidIdeal.Blocks

end
-- ==== Proof.MidClaims.lean ====
/-
  The value claims of the first layer's feed-forward: no constant of it is renamed, and the kernel's result is the reference's.
-/
module

public import proofs.«01_k».proof.Defs
public import proofs.«01_k».proof.Proof.MidValue
public import proofs.«01_k».proof.Proof.Gen.Mid.Frame
public import proofs.«01_k».proof.Proof.Gen.MidRefIdeal.Run
public import proofs.«01_k».proof.Proof.Gen.MidRefIdeal.Read

@[expose] public section

noncomputable section

namespace Cert.Proof

open Idealize.ShloMosaic Idealize.ShloMosaic.TcCoe Idealize.SL.Sem

/-- Up to the residual's sum the two feed-forward references are the same operations. -/
theorem mid_sum_same (x0 : Cert.MidIdeal.S32768x1024.Idx → EReal) (x1 : Cert.MidIdeal.S1024.Idx → EReal)
    (x2 : Cert.MidIdeal.S1024x5632.Idx → EReal) (x3 : Cert.MidIdeal.S3x2816.Idx → EReal) (x4 : Cert.MidIdeal.S2816.Idx → EReal)
    (x5 : Cert.MidIdeal.S2816x1024.Idx → EReal) : Cert.MidRefIdeal.Read.val_main_v46 (F := Ideal) x0 x1 x2 x3 x4 x5
      = Cert.FfnRefIdeal.Read.val_main_v46 (F := Ideal) x0 x1 x2 x3 x4 x5 := rfl

/-- What the reference returns, at an index. -/
theorem mid_result_at (x0 : Cert.MidIdeal.S32768x1024.Idx → EReal) (x1 : Cert.MidIdeal.S1024.Idx → EReal)
    (x2 : Cert.MidIdeal.S1024x5632.Idx → EReal) (x3 : Cert.MidIdeal.S3x2816.Idx → EReal) (x4 : Cert.MidIdeal.S2816.Idx → EReal)
    (x5 : Cert.MidIdeal.S2816x1024.Idx → EReal) (n : Fin 32768) (j : Fin 1024) :
    Cert.MidRefIdeal.Read.val_main_v47 (F := Ideal) x0 x1 x2 x3 x4 x5 (ix2 n j) = Cert.FfnRead.sumRow x0 x1 x2 x3 x4 x5 n j := by
  have e := Cert.FfnRead.sumRow_at x0 x1 x2 x3 x4 x5 ⟨n.val / 8192, by omega⟩ ⟨n.val % 8192, by omega⟩ j
  rw [show Cert.FfnRead.rowOf ⟨n.val / 8192, by omega⟩ ⟨n.val % 8192, by omega⟩ = n from
    Fin.ext (by show n.val / 8192 * 8192 + n.val % 8192 = n.val; omega), ← mid_sum_same] at e
  rw [← e]
  pointwise [Cert.MidRefIdeal.Read.val_main_v47]

/-- From memories that agree on the arguments, the kernel's array is the reference's result. -/
theorem mid_eq (m : (ℓ : Loc Cert.MidIdeal.nD Cert.MidIdeal.τ Cert.MidIdeal.sig) → Buf (Elt Ideal) ℓ) (c : Dev Cert.MidIdeal.nD)
    (x0 : Cert.MidIdeal.S32768x1024.Idx → EReal) (x1 : Cert.MidIdeal.S1024.Idx → EReal) (x2 : Cert.MidIdeal.S1024x5632.Idx → EReal)
    (x3 : Cert.MidIdeal.S3x2816.Idx → EReal) (x4 : Cert.MidIdeal.S2816.Idx → EReal) (x5 : Cert.MidIdeal.S2816x1024.Idx → EReal)
    (h0 : x0 = Cert.MidIdeal.Blocks.arg0 m c) (h1 : x1 = Cert.MidIdeal.Blocks.arg1 m c) (h2 : x2 = Cert.MidIdeal.Blocks.arg2 m c)
    (h3 : x3 = Cert.MidIdeal.Blocks.arg3 m c) (h4 : x4 = Cert.MidIdeal.Blocks.arg4 m c) (h5 : x5 = Cert.MidIdeal.Blocks.arg5 m c) :
    Cert.MidRefIdeal.Read.val_main_v47 (F := Ideal) x0 x1 x2 x3 x4 x5 = Cert.MidIdeal.Value.G7 (F := Ideal) m c := by
  subst h0 h1 h2 h3 h4 h5
  funext i
  obtain ⟨n, j, rfl⟩ : ∃ (n : Fin 32768) (j : Fin 1024), i = ix2 n j := ⟨i 0, i 1, eq_ix2 i⟩
  rw [mid_result_at]
  exact (Cert.MidIdeal.Blocks.array_at m c n j).symm

/-- No constant of the feed-forward is renamed. -/
theorem preserves_mid : Cert.preserves_Mid_MidIdeal := trivial

/-- The feed-forward kernel computes the reference's feed-forward layer over the extended reals. -/
theorem algebraic_mid : @Cert.algebraic_MidIdeal_MidRefIdeal Cert.MidIdeal.Gen.facts Cert.MidRefIdeal.Gen.facts :=
  fun m ρ m' ρ' _ hag => ⟨fun c => Cert.MidIdeal.Value.G7 (F := Ideal) m c, Cert.MidIdeal.Value.run m ρ,
    (θ_run _ _ _).mono (fun _ h c => ⟨(h c).1.trans ((Cert.MidRefIdeal.Read.val_main_v47_eq m' c).trans
      (mid_eq m c _ _ _ _ _ _ (hag c).1 (hag c).2.1 (hag c).2.2.1 (hag c).2.2.2.1 (hag c).2.2.2.2.1 (hag c).2.2.2.2.2.1)), (h c).2⟩) (Cert.MidRefIdeal.Value.run m' ρ')⟩

/-- The kernel, as written and idealized, leaves its arguments and every semaphore as it found them. -/
theorem frame_mid : @Cert.quiescent_Mid Cert.Mid.Gen.facts := fun m ρ _ => Cert.Mid.Gen.frame m ρ
theorem frame_mid_ideal : @Cert.quiescent_MidIdeal Cert.MidIdeal.Gen.facts := fun m ρ _ => Cert.MidIdeal.Gen.frame m ρ

/-- The reference leaves its arguments as it found them; it has no semaphores. -/
theorem frame_mid_ref : @Cert.quiescent_MidRefIdeal Cert.MidRefIdeal.Gen.facts := fun m ρ _ =>
  (θ_run Cert.MidRefIdeal.defs _ _).mono (fun r h => ⟨fun c => (h c).2, Idealize.ShloMosaic.sem_eq_zero_of_no_sems (by decide) r.2⟩)
    (Cert.MidRefIdeal.Value.run (F := Ideal) m ρ)

end Cert.Proof

end
-- ==== Proof.InpMath.lean ====
/-
  The logarithm of the sigmoid over the extended reals, in the kernel's form and in the reference's, and sums of which all
  terms from some index on are zero.
-/
module

public import proofs.«01_k».proof.Proof.Consts

@[expose] public section

noncomputable section

namespace Cert.InpMath

open Idealize.ShloMosaic

/-- `log (1 + exp (-|z|))`, which both forms subtract. -/
def soft (z : EReal) : EReal := Ideal.log1p (Ideal.exp (-max z (-z)))

/-- The logarithm of the sigmoid as the kernel forms it: the smaller of `z` and zero, less `soft z`; over 16. -/
def decay (z : EReal) : EReal := (min z 0 - soft z) * ((1 / 16 : ℝ) : EReal)

/-- `soft` is a real number at every extended real. -/
theorem soft_coe (z : EReal) : ∃ r : ℝ, soft z = (r : EReal) := by
  have h0 : ∃ e : ℝ, 0 ≤ e ∧ Ideal.exp (-max z (-z)) = (e : EReal) := by
    induction z using EReal.rec with
    | bot => exact ⟨0, le_refl _, by simp [Ideal.exp_bot]⟩
    | top => exact ⟨0, le_refl _, by simp [Ideal.exp_bot]⟩
    | coe r =>
      refine ⟨Real.exp (-max r (-r)), (Real.exp_pos _).le, ?_⟩
      rw [← EReal.coe_neg, ← EReal.coe_strictMono.monotone.map_max, ← EReal.coe_neg]
      rfl
  obtain ⟨e, he, h⟩ := h0
  refine ⟨Real.log (1 + e), ?_⟩
  unfold soft Ideal.log1p
  rw [h, ← EReal.coe_one, ← EReal.coe_add]
  show (if 1 + e ≤ 0 then ⊥ else (Real.log (1 + e) : EReal)) = _
  rw [if_neg (by linarith)]

/-- The reference's form: minus the sum of the greater of `-z` and zero and `soft`, divided by 16. -/
theorem decay_eq (z : EReal) : decay z = Ideal.div (-(max (-z) 0 + soft z)) ((16 : ℝ) : EReal) := by
  obtain ⟨r, h⟩ := soft_coe z
  unfold decay
  have hm : -max (-z) 0 = min z 0 := by
    rcases le_total z 0 with g | g
    · rw [min_eq_left g, max_eq_left (by rw [EReal.le_neg]; simpa using g), neg_neg]
    · rw [min_eq_right g, max_eq_right (by rw [EReal.neg_le]; simpa using g), neg_zero]
  rw [Ideal.div_coe (by norm_num), h, EReal.neg_add (.inr (EReal.coe_ne_top r)) (.inr (EReal.coe_ne_bot r)), hm]

/-- A sum over 128 indices whose terms vanish from the sixteenth on. -/
theorem sum_first16 (f : Fin 128 → EReal) (h : ∀ i : Fin 128, 16 ≤ i.val → f i = 0) :
    ∑ i, f i = ∑ i : Fin 16, f ⟨i.val, by omega⟩ := by
  rw [← Finset.sum_subset (Finset.subset_univ (Finset.univ.image fun i : Fin 16 => (⟨i.val, by omega⟩ : Fin 128)))]
  · exact Finset.sum_image (f := f) (g := fun i : Fin 16 => (⟨i.val, by omega⟩ : Fin 128))
      fun a _ b _ e => Fin.ext (by have := congrArg Fin.val e; exact this)
  · intro i _ hi
    refine h i (not_lt.mp fun g => hi ?_)
    rw [Finset.mem_image]
    exact ⟨⟨i.val, g⟩, Finset.mem_univ _, rfl⟩

end Cert.InpMath

end
-- ==== Proof.InpRead.lean ====
/-
  The input projection's reference read at an index: the normed row times the weights, its pieces, and the logarithm of the
  decay.
-/
module

public import proofs.«01_k».proof.Proof.InpMath
public import proofs.«01_k».proof.Proof.FfnRead
public import proofs.«01_k».proof.Proof.Gen.InpRefIdeal.Read
public import Idealize.ShloMosaic.Lib.Pointwise

@[expose] public section

set_option maxRecDepth 16384

noncomputable section

namespace Cert.InpRead

open Idealize.ShloMosaic Cert.InpMath Cert.InpRefIdeal Cert.InpRefIdeal.Gen Cert.InpRefIdeal.Read

variable (x0 : (⟨S32768x1024, .f32⟩ : BufTy).Contents (Elt Ideal)) (x1 : (⟨S1024, .f32⟩ : BufTy).Contents (Elt Ideal))
  (x2 : (⟨S1024x2064, .f32⟩ : BufTy).Contents (Elt Ideal)) (x3 : (⟨S16x256, .f32⟩ : BufTy).Contents (Elt Ideal))
  (x4 : (⟨S256, .f32⟩ : BufTy).Contents (Elt Ideal))

/-- Column `j` of the projection of row `n`. -/
def proj (n : Fin 32768) (j : Fin 2064) : EReal :=
  ∑ k, FfnRead.rowNorm (fun k => x0 (ix2 n k)) (fun k => x1 (ix1 k)) k * x2 (ix2 k j)

/-- What the decay's sigmoid is taken of: the sixteen low-rank columns times the second weights, and the bias. -/
def gate (n : Fin 32768) (c : Fin 256) : EReal :=
  (∑ i : Fin 16, proj x0 x1 x2 n ⟨1536 + i.val, by omega⟩ * x3 (ix2 i c)) + x4 (ix1 c)

theorem proj_at (n : Fin 32768) (j : Fin 2064) : val_main_v13 (F := Ideal) x0 x1 x2 (ix2 n j) = proj x0 x1 x2 n j := by
  pointwise [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  rfl

/-- The queries, over the root of the key width. -/
theorem query_at (n : Fin 32768) (j : Fin 256) : val_main_v21 (F := Ideal) x0 x1 x2 (ix2 n j)
    = proj x0 x1 x2 n ⟨j.val, by omega⟩ * Ideal.ofBits .f32 0x3E000000#32 := by
  rw [← proj_at]
  pointwise [val_main_v21, val_main_v20, val_main_v14, val_main_cst_2]

theorem key_at (n : Fin 32768) (j : Fin 256) : val_main_v15 (F := Ideal) x0 x1 x2 (ix2 n j)
    = proj x0 x1 x2 n ⟨256 + j.val, by omega⟩ := by
  rw [← proj_at]
  pointwise [val_main_v15]

theorem value_at (n : Fin 32768) (j : Fin 512) : val_main_v29 (F := Ideal) x0 x1 x2 (ix2 n j)
    = proj x0 x1 x2 n ⟨512 + j.val, by omega⟩ := by
  rw [← proj_at]
  pointwise [val_main_v29, val_main_v16]

theorem out_gate_at (n : Fin 32768) (j : Fin 512) : val_main_v17 (F := Ideal) x0 x1 x2 (ix2 n j)
    = proj x0 x1 x2 n ⟨1024 + j.val, by omega⟩ := by
  rw [← proj_at]
  pointwise [val_main_v17]

theorem mem_query_at (n : Fin 32768) (j : Fin 512) : val_main_v30 (F := Ideal) x0 x1 x2 (ix2 n j)
    = proj x0 x1 x2 n ⟨1552 + j.val, by omega⟩ := by
  rw [← proj_at]
  pointwise [val_main_v30, val_main_v19]

theorem gate_at (n : Fin 32768) (c : Fin 256) : val_main_v25 (F := Ideal) x0 x1 x2 x3 x4 (ix2 n c) = gate x0 x1 x2 x3 x4 n c := by
  unfold gate
  simp only [← proj_at]
  pointwise [val_main_v25, val_main_v24, val_main_v23, val_main_v22, val_main_v18]

/-- The logarithm of the decay. -/
theorem decay_at (n : Fin 32768) (c : Fin 256) : val_main_v28 (F := Ideal) x0 x1 x2 x3 x4 (ix2 n c)
    = decay (gate x0 x1 x2 x3 x4 n c) := by
  rw [decay_eq, ← gate_at]
  pointwise [val_main_v28, val_main_v27, val_main_v26, val_main_cst_3, val_main_call0_v1, val_main_call0_call0_v11,
    val_main_call0_call0_v10, val_main_call0_call0_v9, val_main_call0_call0_v8, val_main_call0_call0_v7, val_main_call0_call0_v6,
    val_main_call0_call0_v5, val_main_call0_call0_v4, val_main_call0_call0_v3, val_main_call0_call0_v2, val_main_call0_call0_v1,
    val_main_call0_call0_v0, val_main_call0_call0_cst, val_main_call0_v0]
  generalize val_main_v25 (F := Ideal) x0 x1 x2 x3 x4 (ix2 n c) = z
  have ha : (FloatOps.absf (F := Ideal) (φ := .f32) (-z) : EReal) = max z (-z) := by
    show max (-z) (- -z) = max z (-z)
    rw [neg_neg, max_comm]
  rw [if_neg (fun h => h rfl), Consts.ofBits_16, ha]
  rfl

end Cert.InpRead

end
-- ==== Proof.InpBlock.lean ====
/-
  One grid point of the input projection read at an index, over the extended reals: each of the six output blocks from the
  point's rows, the gain and the weights.
-/
module

public import proofs.«01_k».proof.Proof.InpMath
public import proofs.«01_k».proof.Proof.FfnRead
public import proofs.«01_k».proof.Proof.Gen.InpIdeal.Frame
public import Idealize.ShloMosaic.Lib.Pipeline.Value
public import Idealize.ShloMosaic.Lib.Pointwise

@[expose] public section

set_option maxRecDepth 16384

noncomputable section

namespace Cert.InpIdeal.Block

open Cert.InpIdeal Cert.InpIdeal.Gen Idealize.ShloMosaic Cert.FfnRead Cert.InpMath

theorem hz2 : (![0, 0] : Fin 2 → Nat) = fun _ => 0 := by
  funext i
  match i with
  | ⟨0, _⟩ => rfl
  | ⟨1, _⟩ => rfl

variable (x0 : Vec Ideal S1024x1024 .f32) (x1 : Vec Ideal S1x1024 .f32) (x2 : Vec Ideal S1024x2176 .bf16)
  (x3 : Vec Ideal S128x256 .bf16) (x4 : Vec Ideal S1x256 .f32)

/-- Column `j` of the block's projection in row `r`. -/
def cols (r : Fin 1024) (j : Fin 2176) : EReal :=
  ∑ k, rowNorm (fun k => x0 (ix2 r k)) (fun k => x1 (ix2 0 k)) k * x2 (ix2 k j)

/-- The normed rows. -/
theorem norm_at (r k : Fin 1024) :
    k0_pay4 x0 x1 (ix2 r k) = rowNorm (fun k => x0 (ix2 r k)) (fun k => x1 (ix2 0 k)) k := by
  pointwise [k0_pay4]
  rfl

/-- The queries' block. -/
theorem query_at (r : Fin 1024) (j : Fin 256) : out0_5 x0 x1 x2 x3 x4 (ix2 r j)
    = cols x0 x1 x2 r ⟨j.val, by omega⟩ * Ideal.ofBits .f32 0x3E000000#32 := by
  unfold out0_5 cols
  rw [View.canon_unit_zero hz2, View.ld_unit_zero (S := S1024x1024) hz2, View.ld_unit_zero (S := S1x1024) hz2]
  simp only [← norm_at]
  pointwise [k0_pay5]

/-- The keys' block. -/
theorem key_at (r : Fin 1024) (j : Fin 256) : out0_6 x0 x1 x2 x3 x4 (ix2 r j)
    = cols x0 x1 x2 r ⟨256 + j.val, by omega⟩ := by
  unfold out0_6 cols
  rw [View.canon_unit_zero hz2, View.ld_unit_zero (S := S1024x1024) hz2, View.ld_unit_zero (S := S1x1024) hz2]
  simp only [← norm_at]
  pointwise [k0_pay6]

/-- The values' block. -/
theorem value_at (r : Fin 1024) (j : Fin 512) : out0_8 x0 x1 x2 x3 x4 (ix2 r j)
    = cols x0 x1 x2 r ⟨512 + j.val, by omega⟩ := by
  unfold out0_8 cols
  rw [View.canon_unit_zero hz2, View.ld_unit_zero (S := S1024x1024) hz2, View.ld_unit_zero (S := S1x1024) hz2]
  simp only [← norm_at]
  pointwise [k0_pay7]

/-- The output gate's block. -/
theorem out_gate_at (r : Fin 1024) (j : Fin 512) : out0_9 x0 x1 x2 x3 x4 (ix2 r j)
    = cols x0 x1 x2 r ⟨1024 + j.val, by omega⟩ := by
  unfold out0_9 cols k0_pay8
  rw [View.canon_unit_zero hz2, View.ld_unit_zero (S := S1024x1024) hz2, View.ld_unit_zero (S := S1x1024) hz2]
  simp only [← norm_at]
  pointwise [k0_pay1]

/-- The block of the memory attention's queries. -/
theorem mem_query_at (r : Fin 1024) (j : Fin 512) : out0_10 x0 x1 x2 x3 x4 (ix2 r j)
    = cols x0 x1 x2 r ⟨1536 + j.val, by omega⟩ := by
  unfold out0_10 cols k0_pay8
  rw [View.canon_unit_zero hz2, View.ld_unit_zero (S := S1024x1024) hz2, View.ld_unit_zero (S := S1x1024) hz2]
  simp only [← norm_at]
  pointwise [k0_pay2]

/-- The block of the decay's logarithm. -/
theorem decay_at (r : Fin 1024) (j : Fin 256) : out0_7 x0 x1 x2 x3 x4 (ix2 r j)
    = decay ((∑ i : Fin 128, cols x0 x1 x2 r ⟨2048 + i.val, by omega⟩ * x3 (ix2 i j)) + x4 (ix2 0 j)) := by
  unfold out0_7 decay soft cols k0_pay8
  rw [View.canon_unit_zero hz2, View.ld_unit_zero (S := S1024x1024) hz2, View.ld_unit_zero (S := S1x1024) hz2]
  simp only [← norm_at]
  pointwise [k0_pay3]
  rw [Consts.ofBits_sixteenth, zero_sub]
  rfl

end Cert.InpIdeal.Block

end
-- ==== Proof.InpValue.lean ====
/-
  What the input projection's output arrays hold: at every index, the reference's projection of the launch arguments.
-/
module

public import proofs.«01_k».proof.Proof.InpRead
public import proofs.«01_k».proof.Proof.InpBlock
public import proofs.«01_k».proof.Proof.Gen.InpIdeal.Value
public import Idealize.ShloMosaic.Lib.StableHlo.ReadAt

@[expose] public section

set_option maxRecDepth 16384

noncomputable section

namespace Cert.InpIdeal.Blocks

open Cert.InpIdeal Cert.InpIdeal.Gen Cert.InpIdeal.Block Cert.InpIdeal.Value Idealize.ShloMosaic Idealize.ShloMosaic.TcCoe Cert.InpMath

variable (m : (ℓ : Loc nD τ sig) → Buf (Elt Ideal) ℓ) (c : Dev nD)

/-- The launch arguments, as arrays. -/
abbrev arg0 : S32768x1024.Idx → EReal := m ((c : Thread nD τ).loc main_arg0)
abbrev arg1 : S1024.Idx → EReal := m ((c : Thread nD τ).loc main_arg1)
abbrev arg2 : S1024x2064.Idx → EReal := m ((c : Thread nD τ).loc main_arg2)
abbrev arg3 : S16x256.Idx → EReal := m ((c : Thread nD τ).loc main_arg3)
abbrev arg4 : S256.Idx → EReal := m ((c : Thread nD τ).loc main_arg4)

/-- Where the windows' blocks lie at a point, decided over the grid. -/
theorem index_facts : ∀ t : Fin cfg0.N,
    win0_0.index t (0 : Fin 2) = t.val ∧ win0_0.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

theorem index_whole : ∀ t : Fin cfg0.N,
    win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

theorem point_lt (t : Fin cfg0.N) : t.val < 32 := lt_of_lt_of_eq t.isLt N_0

/-- The rows' block. -/
theorem block0 (t : Fin cfg0.N) (r k : Fin 1024) :
    iblk (F := Ideal) m c 0 t (ix2 r k) = arg0 m c (ix2 ⟨t.val * 1024 + r.val, by have := point_lt t; omega⟩ k) := by
  obtain ⟨e0, e1, -⟩ := index_facts t
  unfold iblk; rw [View.read_apply]
  show V (F := Ideal) m c main_arg0 _ = _
  rw [V_main_arg0]
  unfold arg0
  congr 1
  funext a; apply Fin.ext
  match a with
  | ⟨0, _⟩ => show win0_0.index t (0 : Fin 2) * 1024 + 1 * r.val = _; rw [e0, one_mul]; rfl
  | ⟨1, _⟩ => show win0_0.index t (1 : Fin 2) * 1024 + 1 * k.val = _; rw [e1, one_mul, zero_mul, zero_add]; rfl

/-- The gain, reshaped to one row. -/
theorem gain_at (z : Fin 1) (k : Fin 1024) : V (F := Ideal) m c main_v8 (ix2 z k) = arg1 m c (ix1 k) := by
  unfold V arg1
  after_reads_at
  try rfl

/-- The bias, reshaped to one row. -/
theorem bias_at (z : Fin 1) (j : Fin 256) : V (F := Ideal) m c main_v9 (ix2 z j) = arg4 m c (ix1 j) := by
  unfold V arg4
  after_reads_at
  try rfl

/-- The padding's zero. -/
theorem sitofp_zero : (FloatOps.sitofp (F := Ideal) .f32 (0#32 : BitVec 32) : EReal) = 0 := by
  show ((((0#32 : BitVec 32).toInt : ℤ) : ℝ) : EReal) = 0
  simp

/-! The weights as the kernel orders them: the low-rank columns last, zeros after them. -/

theorem col_low (k : Fin 1024) (j : Fin 2176) (h : j.val < 1536) :
    V (F := Ideal) m c main_v5 (ix2 k j) = arg2 m c (ix2 k ⟨j.val, by omega⟩) := by
  unfold V arg2
  after_reads_at
  rw [dif_pos h]
  after_reads_at

theorem col_mid (k : Fin 1024) (j : Fin 512) :
    V (F := Ideal) m c main_v5 (ix2 k ⟨1536 + j.val, by omega⟩) = arg2 m c (ix2 k ⟨1552 + j.val, by omega⟩) := by
  unfold V arg2
  after_reads_at
  after_reads_at

theorem col_rank (k : Fin 1024) (i : Fin 16) :
    V (F := Ideal) m c main_v5 (ix2 k ⟨2048 + i.val, by omega⟩) = arg2 m c (ix2 k ⟨1536 + i.val, by omega⟩) := by
  unfold V arg2
  after_reads_at
  rw [dif_neg (by simp; omega), dif_neg (by simp; omega)]
  after_reads_at
  rw [dif_pos (by omega)]
  exact congrArg (fun q => arg2 m c (ix2 k q)) (Fin.ext (by show 1536 + (2048 + i.val - 1536 - 512) = 1536 + i.val; omega))

/-- The second weights with zero rows below them. -/
theorem alpha_at (i : Fin 128) (j : Fin 256) : V (F := Ideal) m c main_v7 (ix2 i j)
    = if h : i.val < 16 then arg3 m c (ix2 ⟨i.val, h⟩ j) else 0 := by
  unfold V arg3
  after_reads_at
  by_cases h : i.val < 16
  · rw [dif_pos h, dif_pos h]
  · rw [dif_neg h, dif_neg h]
    exact sitofp_zero

theorem block1 (t : Fin cfg0.N) (z : Fin 1) (k : Fin 1024) : iblk (F := Ideal) m c 1 t (ix2 z k) = arg1 m c (ix1 k) := by
  obtain ⟨e0, e1, -⟩ := index_whole t
  rw [← gain_at m c z k]
  unfold iblk; rw [View.read_apply]
  show V (F := Ideal) m c main_v8 _ = _
  congr 1
  funext a; apply Fin.ext
  match a with
  | ⟨0, _⟩ => show win0_1.index t (0 : Fin 2) * 1 + 1 * z.val = z.val; rw [e0, one_mul, zero_mul, zero_add]
  | ⟨1, _⟩ => show win0_1.index t (1 : Fin 2) * 1024 + 1 * k.val = k.val; rw [e1, one_mul, zero_mul, zero_add]

theorem block2 (t : Fin cfg0.N) (k : Fin 1024) (j : Fin 2176) :
    iblk (F := Ideal) m c 2 t (ix2 k j) = V (F := Ideal) m c main_v5 (ix2 k j) := by
  obtain ⟨-, -, e0, e1, -⟩ := index_whole t
  unfold iblk; rw [View.read_apply]
  show V (F := Ideal) m c main_v5 _ = _
  congr 1
  funext a; apply Fin.ext
  match a with
  | ⟨0, _⟩ => show win0_2.index t (0 : Fin 2) * 1024 + 1 * k.val = k.val; rw [e0, one_mul, zero_mul, zero_add]
  | ⟨1, _⟩ => show win0_2.index t (1 : Fin 2) * 2176 + 1 * j.val = j.val; rw [e1, one_mul, zero_mul, zero_add]

theorem block3 (t : Fin cfg0.N) (i : Fin 128) (j : Fin 256) :
    iblk (F := Ideal) m c 3 t (ix2 i j) = V (F := Ideal) m c main_v7 (ix2 i j) := by
  obtain ⟨-, -, -, -, e0, e1, -⟩ := index_whole t
  unfold iblk; rw [View.read_apply]
  show V (F := Ideal) m c main_v7 _ = _
  congr 1
  funext a; apply Fin.ext
  match a with
  | ⟨0, _⟩ => show win0_3.index t (0 : Fin 2) * 128 + 1 * i.val = i.val; rw [e0, one_mul, zero_mul, zero_add]
  | ⟨1, _⟩ => show win0_3.index t (1 : Fin 2) * 256 + 1 * j.val = j.val; rw [e1, one_mul, zero_mul, zero_add]

theorem block4 (t : Fin cfg0.N) (z : Fin 1) (j : Fin 256) : iblk (F := Ideal) m c 4 t (ix2 z j) = arg4 m c (ix1 j) := by
  obtain ⟨-, -, -, -, -, -, e0, e1⟩ := index_whole t
  rw [← bias_at m c z j]
  unfold iblk; rw [View.read_apply]
  show V (F := Ideal) m c main_v9 _ = _
  congr 1
  funext a; apply Fin.ext
  match a with
  | ⟨0, _⟩ => show win0_4.index t (0 : Fin 2) * 1 + 1 * z.val = z.val; rw [e0, one_mul, zero_mul, zero_add]
  | ⟨1, _⟩ => show win0_4.index t (1 : Fin 2) * 256 + 1 * j.val = j.val; rw [e1, one_mul, zero_mul, zero_add]

/-- A column of a point's projection is a column of the reference's, where the weights' columns are the same. -/
theorem cols_at (t : Fin cfg0.N) (r : Fin 1024) (j : Fin 2176) (j' : Fin 2064)
    (h : ∀ k, V (F := Ideal) m c main_v5 (ix2 k j) = arg2 m c (ix2 k j')) :
    cols (iblk (F := Ideal) m c 0 t) (iblk (F := Ideal) m c 1 t) (iblk (F := Ideal) m c 2 t) r j
      = InpRead.proj (arg0 m c) (arg1 m c) (arg2 m c) ⟨t.val * 1024 + r.val, by have := point_lt t; omega⟩ j' := by
  unfold cols InpRead.proj
  simp only [block0, block1, block2, h]

/-- What the decay's sigmoid is taken of: the padded columns meet the second weights' zero rows. -/
theorem gate_block (t : Fin cfg0.N) (r : Fin 1024) (j : Fin 256) :
    (∑ i : Fin 128, cols (iblk (F := Ideal) m c 0 t) (iblk (F := Ideal) m c 1 t) (iblk (F := Ideal) m c 2 t) r ⟨2048 + i.val, by omega⟩
        * iblk (F := Ideal) m c 3 t (ix2 i j)) + iblk (F := Ideal) m c 4 t (ix2 0 j)
      = InpRead.gate (arg0 m c) (arg1 m c) (arg2 m c) (arg3 m c) (arg4 m c) ⟨t.val * 1024 + r.val, by have := point_lt t; omega⟩ j := by
  have hz : ∀ i : Fin 128, 16 ≤ i.val → iblk (F := Ideal) m c 3 t (ix2 i j) = (0 : EReal) := fun i hi => by
    rw [block3, alpha_at, dif_neg (by omega)]
  have hc : ∀ i : Fin 16, cols (iblk (F := Ideal) m c 0 t) (iblk (F := Ideal) m c 1 t) (iblk (F := Ideal) m c 2 t) r ⟨2048 + i.val, by omega⟩
      = InpRead.proj (arg0 m c) (arg1 m c) (arg2 m c) ⟨t.val * 1024 + r.val, by have := point_lt t; omega⟩ ⟨1536 + i.val, by omega⟩ :=
    fun i => cols_at m c t r _ _ fun k => col_rank m c k i
  have ha : ∀ i : Fin 16, iblk (F := Ideal) m c 3 t (ix2 ⟨i.val, by omega⟩ j) = arg3 m c (ix2 i j) := fun i => by
    rw [block3, alpha_at, dif_pos i.isLt]
  unfold InpRead.gate
  refine congrArg₂ (· + ·) ?_ (block4 m c t 0 j)
  refine (sum_first16 _ fun i hi => ?_).trans (Finset.sum_congr rfl fun i _ => ?_)
  · exact (congrArg _ (hz i hi)).trans (mul_zero _)
  · exact congrArg₂ (· * ·) (hc i) (ha i)

/-- The point that writes row `n`, and the row's place in its block. -/
abbrev pt (n : Fin 32768) : Fin cfg0.N := ⟨n.val / 1024, lt_of_lt_of_eq (by omega) N_0.symm⟩
abbrev row (n : Fin 32768) : Fin 1024 := ⟨n.val % 1024, by omega⟩

theorem pt_row (n : Fin 32768) : (pt n).val * 1024 + (row n).val = n.val := by
  show n.val / 1024 * 1024 + n.val % 1024 = n.val
  omega

theorem row_eq (n : Fin 32768) (h : (pt n).val * 1024 + (row n).val < 32768) : (⟨(pt n).val * 1024 + (row n).val, h⟩ : Fin 32768) = n :=
  Fin.ext (pt_row n)

/-- An array's index is the place a window's block has it at: the block index is the point and zero, as `h0` and `h1` say. -/
theorem place {W : ℕ} (n : Fin 32768) (j : Fin W) {i0 i1 : ℕ} {x : (⟨2, ![32768, W]⟩ : Shape).Idx} (h0 : i0 = (pt n).val) (h1 : i1 = 0)
    (e0 : (x 0).val = i0 * 1024 + 1 * (row n).val) (e1 : (x 1).val = i1 * W + 1 * j.val) : ix2 n j = x := by
  funext a; apply Fin.ext
  match a with
  | ⟨0, _⟩ => exact ((e0.trans (by rw [h0, one_mul])).trans (pt_row n)).symm
  | ⟨1, _⟩ => exact (e1.trans ((by rw [h1, one_mul, zero_mul, zero_add] : i1 * W + 1 * j.val = j.val))).symm

/-! The output arrays at an index, in the reference's terms. -/

theorem query_array (n : Fin 32768) (j : Fin 256) : (dats (F := Ideal) m 0 c).arrAt 5 cfg0.N (ix2 n j)
    = InpRead.proj (arg0 m c) (arg1 m c) (arg2 m c) n ⟨j.val, by omega⟩ * Ideal.ofBits .f32 0x3E000000#32 := by
  obtain ⟨-, -, h0, h1, -⟩ := index_facts (pt n)
  have e := congrFun (blocks5 (F := Ideal) m c (pt n) (flush0_5 (pt n))) (ix2 (row n) j : S1024x256.Idx)
  rw [View.read_apply, flushed5] at e
  refine (congrArg _ (place n j h0 h1 rfl rfl)).trans (e.trans ((query_at _ _ _ _ _ (row n) j).trans ?_))
  rw [cols_at m c (pt n) (row n) _ ⟨j.val, by omega⟩ fun k => col_low m c k _ (by simp; omega), row_eq]

theorem key_array (n : Fin 32768) (j : Fin 256) : (dats (F := Ideal) m 0 c).arrAt 6 cfg0.N (ix2 n j)
    = InpRead.proj (arg0 m c) (arg1 m c) (arg2 m c) n ⟨256 + j.val, by omega⟩ := by
  obtain ⟨-, -, -, -, h0, h1, -⟩ := index_facts (pt n)
  have e := congrFun (blocks6 (F := Ideal) m c (pt n) (flush0_6 (pt n))) (ix2 (row n) j : S1024x256.Idx)
  rw [View.read_apply, flushed6] at e
  refine (congrArg _ (place n j h0 h1 rfl rfl)).trans (e.trans ((key_at _ _ _ _ _ (row n) j).trans ?_))
  rw [cols_at m c (pt n) (row n) _ ⟨256 + j.val, by omega⟩ fun k => col_low m c k _ (by simp; omega), row_eq]

theorem decay_array (n : Fin 32768) (j : Fin 256) : (dats (F := Ideal) m 0 c).arrAt 7 cfg0.N (ix2 n j)
    = decay (InpRead.gate (arg0 m c) (arg1 m c) (arg2 m c) (arg3 m c) (arg4 m c) n j) := by
  obtain ⟨-, -, -, -, -, -, h0, h1, -⟩ := index_facts (pt n)
  have e := congrFun (blocks7 (F := Ideal) m c (pt n) (flush0_7 (pt n))) (ix2 (row n) j : S1024x256.Idx)
  rw [View.read_apply, flushed7] at e
  refine (congrArg _ (place n j h0 h1 rfl rfl)).trans (e.trans ((decay_at _ _ _ _ _ (row n) j).trans ?_))
  rw [gate_block, row_eq]

theorem value_array (n : Fin 32768) (j : Fin 512) : (dats (F := Ideal) m 0 c).arrAt 8 cfg0.N (ix2 n j)
    = InpRead.proj (arg0 m c) (arg1 m c) (arg2 m c) n ⟨512 + j.val, by omega⟩ := by
  obtain ⟨-, -, -, -, -, -, -, -, h0, h1, -⟩ := index_facts (pt n)
  have e := congrFun (blocks8 (F := Ideal) m c (pt n) (flush0_8 (pt n))) (ix2 (row n) j : S1024x512.Idx)
  rw [View.read_apply, flushed8] at e
  refine (congrArg _ (place n j h0 h1 rfl rfl)).trans (e.trans ((value_at _ _ _ _ _ (row n) j).trans ?_))
  rw [cols_at m c (pt n) (row n) _ ⟨512 + j.val, by omega⟩ fun k => col_low m c k _ (by simp; omega), row_eq]

theorem out_gate_array (n : Fin 32768) (j : Fin 512) : (dats (F := Ideal) m 0 c).arrAt 9 cfg0.N (ix2 n j)
    = InpRead.proj (arg0 m c) (arg1 m c) (arg2 m c) n ⟨1024 + j.val, by omega⟩ := by
  obtain ⟨-, -, -, -, -, -, -, -, -, -, h0, h1, -⟩ := index_facts (pt n)
  have e := congrFun (blocks9 (F := Ideal) m c (pt n) (flush0_9 (pt n))) (ix2 (row n) j : S1024x512.Idx)
  rw [View.read_apply, flushed9] at e
  refine (congrArg _ (place n j h0 h1 rfl rfl)).trans (e.trans ((out_gate_at _ _ _ _ _ (row n) j).trans ?_))
  rw [cols_at m c (pt n) (row n) _ ⟨1024 + j.val, by omega⟩ fun k => col_low m c k _ (by simp; omega), row_eq]

theorem mem_query_array (n : Fin 32768) (j : Fin 512) : (dats (F := Ideal) m 0 c).arrAt 10 cfg0.N (ix2 n j)
    = InpRead.proj (arg0 m c) (arg1 m c) (arg2 m c) n ⟨1552 + j.val, by omega⟩ := by
  obtain ⟨-, -, -, -, -, -, -, -, -, -, -, -, h0, h1⟩ := index_facts (pt n)
  have e := congrFun (blocks10 (F := Ideal) m c (pt n) (flush0_10 (pt n))) (ix2 (row n) j : S1024x512.Idx)
  rw [View.read_apply, flushed10] at e
  refine (congrArg _ (place n j h0 h1 rfl rfl)).trans (e.trans ((mem_query_at _ _ _ _ _ (row n) j).trans ?_))
  rw [cols_at m c (pt n) (row n) _ ⟨1552 + j.val, by omega⟩ fun k => col_mid m c k j, row_eq]

end Cert.InpIdeal.Blocks

end
-- ==== Proof.InpClaims.lean ====
/-
  The input projection's value claims: no constant of it is renamed, and the kernel's six results are the reference's.
-/
module

public import proofs.«01_k».proof.Defs
public import proofs.«01_k».proof.Proof.InpValue
public import proofs.«01_k».proof.Proof.Gen.Inp.Frame
public import proofs.«01_k».proof.Proof.Gen.InpRefIdeal.Run

@[expose] public section

noncomputable section

namespace Cert.Proof

open Idealize.ShloMosaic Idealize.ShloMosaic.TcCoe Idealize.SL.Sem

/-- From memories that agree on the arguments, each of the reference's results is the kernel's array. -/
theorem inp_eq (m : (ℓ : Loc Cert.InpIdeal.nD Cert.InpIdeal.τ Cert.InpIdeal.sig) → Buf (Elt Ideal) ℓ) (c : Dev Cert.InpIdeal.nD)
    (x0 : Cert.InpIdeal.S32768x1024.Idx → EReal) (x1 : Cert.InpIdeal.S1024.Idx → EReal) (x2 : Cert.InpIdeal.S1024x2064.Idx → EReal)
    (x3 : Cert.InpIdeal.S16x256.Idx → EReal) (x4 : Cert.InpIdeal.S256.Idx → EReal)
    (h0 : x0 = Cert.InpIdeal.Blocks.arg0 m c) (h1 : x1 = Cert.InpIdeal.Blocks.arg1 m c) (h2 : x2 = Cert.InpIdeal.Blocks.arg2 m c)
    (h3 : x3 = Cert.InpIdeal.Blocks.arg3 m c) (h4 : x4 = Cert.InpIdeal.Blocks.arg4 m c) :
    Cert.InpRefIdeal.Read.val_main_v21 (F := Ideal) x0 x1 x2 = (Cert.InpIdeal.Gen.dats (F := Ideal) m 0 c).arrAt 5 Cert.InpIdeal.cfg0.N
    ∧ Cert.InpRefIdeal.Read.val_main_v15 (F := Ideal) x0 x1 x2 = (Cert.InpIdeal.Gen.dats (F := Ideal) m 0 c).arrAt 6 Cert.InpIdeal.cfg0.N
    ∧ Cert.InpRefIdeal.Read.val_main_v28 (F := Ideal) x0 x1 x2 x3 x4
      = (Cert.InpIdeal.Gen.dats (F := Ideal) m 0 c).arrAt 7 Cert.InpIdeal.cfg0.N
    ∧ Cert.InpRefIdeal.Read.val_main_v29 (F := Ideal) x0 x1 x2 = (Cert.InpIdeal.Gen.dats (F := Ideal) m 0 c).arrAt 8 Cert.InpIdeal.cfg0.N
    ∧ Cert.InpRefIdeal.Read.val_main_v17 (F := Ideal) x0 x1 x2 = (Cert.InpIdeal.Gen.dats (F := Ideal) m 0 c).arrAt 9 Cert.InpIdeal.cfg0.N
    ∧ Cert.InpRefIdeal.Read.val_main_v30 (F := Ideal) x0 x1 x2 = (Cert.InpIdeal.Gen.dats (F := Ideal) m 0 c).arrAt 10 Cert.InpIdeal.cfg0.N := by
  subst h0 h1 h2 h3 h4
  have narrow : ∀ i : Cert.InpIdeal.S32768x256.Idx, ∃ (n : Fin 32768) (j : Fin 256), i = ix2 n j := fun i => ⟨i 0, i 1, eq_ix2 i⟩
  have wide : ∀ i : Cert.InpIdeal.S32768x512.Idx, ∃ (n : Fin 32768) (j : Fin 512), i = ix2 n j := fun i => ⟨i 0, i 1, eq_ix2 i⟩
  refine ⟨funext fun i => ?_, funext fun i => ?_, funext fun i => ?_, funext fun i => ?_, funext fun i => ?_, funext fun i => ?_⟩
  · obtain ⟨n, j, rfl⟩ := narrow i
    exact (Cert.InpRead.query_at _ _ _ n j).trans (Cert.InpIdeal.Blocks.query_array m c n j).symm
  · obtain ⟨n, j, rfl⟩ := narrow i
    exact (Cert.InpRead.key_at _ _ _ n j).trans (Cert.InpIdeal.Blocks.key_array m c n j).symm
  · obtain ⟨n, j, rfl⟩ := narrow i
    exact (Cert.InpRead.decay_at _ _ _ _ _ n j).trans (Cert.InpIdeal.Blocks.decay_array m c n j).symm
  · obtain ⟨n, j, rfl⟩ := wide i
    exact (Cert.InpRead.value_at _ _ _ n j).trans (Cert.InpIdeal.Blocks.value_array m c n j).symm
  · obtain ⟨n, j, rfl⟩ := wide i
    exact (Cert.InpRead.out_gate_at _ _ _ n j).trans (Cert.InpIdeal.Blocks.out_gate_array m c n j).symm
  · obtain ⟨n, j, rfl⟩ := wide i
    exact (Cert.InpRead.mem_query_at _ _ _ n j).trans (Cert.InpIdeal.Blocks.mem_query_array m c n j).symm

/-- No constant of the input projection is renamed. -/
theorem preserves_inp : Cert.preserves_Inp_InpIdeal := trivial

/-- The input projection computes the reference's six arrays over the extended reals. -/
theorem algebraic_inp : @Cert.algebraic_InpIdeal_InpRefIdeal Cert.InpIdeal.Gen.facts Cert.InpRefIdeal.Gen.facts :=
  fun m ρ m' ρ' _ hag => ⟨fun c => (Cert.InpIdeal.Gen.dats (F := Ideal) m 0 c).arrAt 5 Cert.InpIdeal.cfg0.N,
    fun c => (Cert.InpIdeal.Gen.dats (F := Ideal) m 0 c).arrAt 6 Cert.InpIdeal.cfg0.N,
    fun c => (Cert.InpIdeal.Gen.dats (F := Ideal) m 0 c).arrAt 7 Cert.InpIdeal.cfg0.N,
    fun c => (Cert.InpIdeal.Gen.dats (F := Ideal) m 0 c).arrAt 8 Cert.InpIdeal.cfg0.N,
    fun c => (Cert.InpIdeal.Gen.dats (F := Ideal) m 0 c).arrAt 9 Cert.InpIdeal.cfg0.N,
    fun c => (Cert.InpIdeal.Gen.dats (F := Ideal) m 0 c).arrAt 10 Cert.InpIdeal.cfg0.N,
    Cert.InpIdeal.Value.run_blocks m ρ,
    (θ_run _ _ _).mono (fun _ h c => by
      obtain ⟨e0, e1, e2, e3, e4, e5⟩ := inp_eq m c _ _ _ _ _ (hag c).1 (hag c).2.1 (hag c).2.2.1 (hag c).2.2.2.1 (hag c).2.2.2.2
      obtain ⟨g0, g1, g2, g3, g4, g5, hargs⟩ := h c
      exact ⟨g0.trans ((Cert.InpRefIdeal.Read.val_main_v21_eq _ _ _).trans e0), g1.trans ((Cert.InpRefIdeal.Read.val_main_v15_eq _ _ _).trans e1),
        g2.trans ((Cert.InpRefIdeal.Read.val_main_v28_eq m' c).trans e2), g3.trans ((Cert.InpRefIdeal.Read.val_main_v29_eq _ _ _).trans e3),
        g4.trans ((Cert.InpRefIdeal.Read.val_main_v17_eq _ _ _).trans e4), g5.trans ((Cert.InpRefIdeal.Read.val_main_v30_eq _ _ _).trans e5),
        hargs⟩) (Cert.InpRefIdeal.Value.run m' ρ')⟩

/-- The kernel, as written and idealized, leaves its arguments and every semaphore as it found them. -/
theorem frame_inp : @Cert.quiescent_Inp Cert.Inp.Gen.facts := fun m ρ _ => Cert.Inp.Gen.frame m ρ
theorem frame_inp_ideal : @Cert.quiescent_InpIdeal Cert.InpIdeal.Gen.facts := fun m ρ _ => Cert.InpIdeal.Gen.frame m ρ

/-- The reference leaves its arguments as it found them; it has no semaphores. -/
theorem frame_inp_ref : @Cert.quiescent_InpRefIdeal Cert.InpRefIdeal.Gen.facts := fun m ρ _ =>
  (θ_run Cert.InpRefIdeal.defs _ _).mono (fun r h => ⟨fun c => (h c).2.2.2.2.2.2, Idealize.ShloMosaic.sem_eq_zero_of_no_sems (by decide) r.2⟩)
    (Cert.InpRefIdeal.Value.run (F := Ideal) m ρ)

end Cert.Proof

end
-- ==== Proof.ProjbMath.lean ====
/-
  The second projection's scalars: the queries' factor, which the kernel multiplies by and the reference divides by, and
  the gates' sigmoid.
-/
module

public import proofs.«01_k».proof.Proof.Consts

@[expose] public section

noncomputable section

namespace Cert.ProjbMath

open Idealize.ShloMosaic

/-- The queries' factor: `1 / log 2` times `1 / √64`. -/
def scale : EReal := (((Real.log 2)⁻¹ * (Real.sqrt 64)⁻¹ : ℝ) : EReal)

/-- The sigmoid, as one over one plus the exponential of the negative. -/
def sig (z : EReal) : EReal := Ideal.div 1 (1 + Ideal.exp (-z))

/-- `64.0` denotes the real `64`. -/
theorem ofBits_64 : Ideal.ofBits .f32 0x42800000#32 = ((64 : ℝ) : EReal) := by
  simp [Ideal.ofBits, Ideal.ieee, -EReal.coe_mul]; norm_num

/-- `2.0` denotes the real `2`. -/
theorem ofBits_2 : Ideal.ofBits .f32 0x40000000#32 = ((2 : ℝ) : EReal) := by
  simp [Ideal.ofBits, Ideal.ieee, -EReal.coe_mul]; norm_num

/-- Division by `√64` and then by `log 2` is multiplication by the factor. -/
theorem div_div_eq (z : EReal) : Ideal.div (Ideal.div z ((Real.sqrt 64 : ℝ) : EReal)) ((Real.log 2 : ℝ) : EReal) = z * scale := by
  have h64 : Real.sqrt 64 ≠ 0 := (Real.sqrt_pos.mpr (by norm_num)).ne'
  have hl : Real.log 2 ≠ 0 := (Real.log_pos (by norm_num)).ne'
  unfold scale
  rw [Ideal.div_coe h64, Ideal.div_coe hl, one_div, one_div, mul_comm (Real.log 2)⁻¹, EReal.coe_mul, mul_assoc]

end Cert.ProjbMath

end
-- ==== Proof.ProjbRead.lean ====
/-
  The second projection's reference read at an index: the row normed with one gain times the key and value weights, and
  normed with the other gain times the query, gate and memory query weights.
-/
module

public import proofs.«01_k».proof.Proof.ProjbMath
public import proofs.«01_k».proof.Proof.FfnRead
public import proofs.«01_k».proof.Proof.Gen.ProjbRefIdeal.Read
public import Idealize.ShloMosaic.Lib.Pointwise

@[expose] public section

set_option maxRecDepth 16384

noncomputable section

namespace Cert.ProjbRead

open Idealize.ShloMosaic Cert.ProjbMath Cert.ProjbRefIdeal Cert.ProjbRefIdeal.Gen Cert.ProjbRefIdeal.Read

variable (x0 : (⟨S32768x1024, .f32⟩ : BufTy).Contents (Elt Ideal)) (x1 x2 : (⟨S1024, .f32⟩ : BufTy).Contents (Elt Ideal))
  (x3 : (⟨S1024x768, .f32⟩ : BufTy).Contents (Elt Ideal)) (x4 : (⟨S1024x1048, .f32⟩ : BufTy).Contents (Elt Ideal))

/-- Column `j` of the keys' and values' projection of row `n`. -/
def kv (n : Fin 32768) (j : Fin 768) : EReal :=
  ∑ k, FfnRead.rowNorm (fun k => x0 (ix2 n k)) (fun k => x1 (ix1 k)) k * x3 (ix2 k j)

/-- Column `j` of the other projection of row `n`. -/
def mix (n : Fin 32768) (j : Fin 1048) : EReal :=
  ∑ k, FfnRead.rowNorm (fun k => x0 (ix2 n k)) (fun k => x2 (ix1 k)) k * x4 (ix2 k j)

/-- Row `t` of batch `b` among all rows. -/
abbrev rowOf (b : Fin 4) (t : Fin 8192) : Fin 32768 := ⟨b.val * 8192 + t.val, by omega⟩

theorem kv_at (n : Fin 32768) (j : Fin 768) : val_main_v13 (F := Ideal) x0 x1 x3 (ix2 n j) = kv x0 x1 x3 n j := by
  pointwise [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  rfl

theorem mix_at (n : Fin 32768) (j : Fin 1048) : val_main_v27 (F := Ideal) x0 x2 x4 (ix2 n j) = mix x0 x2 x4 n j := by
  pointwise [val_main_v27, val_main_v26, val_main_v25, val_main_v24, val_main_v23, val_main_v22, val_main_v21, val_main_v20,
    val_main_v19, val_main_v18, val_main_v17, val_main_v16, val_main_v15, val_main_v14, val_main_cst_2, val_main_cst_3, val_main_cst_4]
  rfl

/-- The columns to compress: sixteen rows of 128 columns side by side, keys in the first plane and values in the second. -/
theorem cmp_at (s : Fin 2) (r : Fin 2048) (j : Fin 2048) : val_main_v48 (F := Ideal) x0 x1 x3 (ix3 s r j)
    = kv x0 x1 x3 ⟨r.val * 16 + j.val / 128, by omega⟩ ⟨s.val * 128 + j.val % 128, by omega⟩ := by
  rw [← kv_at]
  pointwise [val_main_v48, val_main_v34, val_main_v33, val_main_v32, val_main_v31]

/-- The keys and values that are not compressed. -/
theorem kvs_at (n : Fin 32768) (j : Fin 512) : val_main_v50 (F := Ideal) x0 x1 x3 (ix2 n j)
    = kv x0 x1 x3 n ⟨256 + j.val, by omega⟩ := by
  rw [← kv_at]
  pointwise [val_main_v50, val_main_v49]

/-- The queries, one column per row, times their factor. -/
theorem query_at (b : Fin 4) (j : Fin 512) (t : Fin 8192) : val_main_v53 (F := Ideal) x0 x2 x4 (ix3 b j t)
    = mix x0 x2 x4 (rowOf b t) ⟨j.val, by omega⟩ * scale := by
  rw [← mix_at, ← div_div_eq]
  pointwise [val_main_v53, val_main_v52, val_main_v51, val_main_v40, val_main_v39, val_main_v38, val_main_cst_6, val_main_v37,
    val_main_v36, val_main_v35, val_main_cst_5, val_main_v28]
  rw [ofBits_64, ofBits_2, Ideal.sqrt_coe, Ideal.log_coe, if_neg (by norm_num), if_neg (by norm_num)]

/-- The gates' columns with the added ones, which hold zero. -/
theorem padded_at (n : Fin 32768) (j : Fin 32) : val_main_v41 (F := Ideal) x0 x2 x4 (ix2 n j)
    = if h : j.val < 24 then mix x0 x2 x4 n ⟨512 + j.val, by omega⟩ else 0 := by
  have hz : val_main_call0_v0 (F := Ideal) (Shape.Idx.first h_S_) = 0 := by
    rw [val_main_call0_v0_apply, val_main_c_apply]
    show ((((0#32 : BitVec 32).toInt : ℤ) : ℝ) : EReal) = 0
    simp
  simp only [← mix_at]
  unfold val_main_v41
  pointwise [val_main_v29]
  by_cases h : j.val < 24
  · rw [dif_pos h, dif_pos h]
  · rw [dif_neg h, dif_neg h, hz]

/-- The gates, one column per row: the sigmoid of the projection, of zero in the added columns. -/
theorem gate_at (b : Fin 4) (j : Fin 32) (t : Fin 8192) : val_main_v55 (F := Ideal) x0 x2 x4 (ix3 b j t)
    = sig (if h : j.val < 24 then mix x0 x2 x4 (rowOf b t) ⟨512 + j.val, by omega⟩ else 0) := by
  rw [← padded_at]
  pointwise [val_main_v55, val_main_v54, val_main_v47, val_main_v46, val_main_v45, val_main_v44, val_main_v43, val_main_v42,
    val_main_cst_7, val_main_cst_8]
  rfl

/-- The memory attention's queries. -/
theorem mem_query_at (n : Fin 32768) (j : Fin 512) : val_main_v56 (F := Ideal) x0 x2 x4 (ix2 n j)
    = mix x0 x2 x4 n ⟨536 + j.val, by omega⟩ := by
  rw [← mix_at]
  pointwise [val_main_v56, val_main_v30]

end Cert.ProjbRead

end
-- ==== Proof.ProjbGather.lean ====
/-
  How the second projection's columns to compress pass through the scratch array: a strided load takes every sixteenth row
  of a plane, and the store puts them side by side with the others.
-/
module

public import proofs.«01_k».proof.Proof.Gen.ProjbIdeal.Frame
public import Idealize.ShloMosaic.Lib.Pipeline.Value
public import Idealize.ShloMosaic.Lib.Pipeline.ReadBack
public import Idealize.ShloMosaic.Lib.Tactic
public import Idealize.ShloMosaic.Lib.Pointwise

@[expose] public section

set_option maxRecDepth 16384

noncomputable section

namespace Cert.ProjbIdeal.Block

open Cert.ProjbIdeal Cert.ProjbIdeal.Gen Idealize.ShloMosaic Idealize.ShloMosaic.TcCoe Idealize.SL.Sem

/-- Sixteen rows of a plane side by side, by plane. -/
def gather (W0 W1 : S1x1024x128.Idx → EReal) (y : S2x64x2048.Idx) : EReal :=
  (if (y 0).val = 0 then W0 else W1) (ix3 0 ⟨(y 1).val * 16 + (y 2).val / 128, by
    have h1 : (y 1).val < 64 := (y 1).isLt; have h2 : (y 2).val < 2048 := (y 2).isLt; omega⟩ ⟨(y 2).val % 128, by omega⟩)

/-- A strided load's rows, stored to their place of the output block: what it reads of plane `s` is that block of `gather`. -/
theorem gather_emb (W0 W1 : S1x1024x128.Idx → EReal) (Z : S2x1024x128.Idx → EReal) (s : Fin 2) {p o : ℕ} (ho : o = 128 * p)
    (hZ : ∀ (r : Fin 1024) (l : Fin 128), Z (ix3 s r l) = (if s.val = 0 then W0 else W1) (ix3 0 r l))
    (inbL) (inbS : ∀ a, (![s.val, 0, o] : Fin 3 → Nat) a + (![1, 64, 128] : Fin 3 → Nat) a ≤ S2x64x2048.size a)
    (x : S1x64x128.Idx) :
    k0_pay6 (F := Ideal) (fun j => Z ((⟨![s.val, p, 0], ![1, 64, 128], ![1, 16, 1], inbL⟩ : LoadRect S2x1024x128).idx j)) x
      = gather W0 W1 ((Rect.unit (s := S2x64x2048) ![s.val, 0, o] ![1, 64, 128] inbS).emb x) := by
  obtain ⟨z, q, l, rfl⟩ : ∃ (z : Fin 1) (q : Fin 64) (l : Fin 128), x = ix3 z q l := ⟨x 0, x 1, x 2, eq_ix3 x⟩
  have hp : p < 16 := by
    have := inbS 2
    have h : o + 128 ≤ 2048 := this
    omega
  have e : (Rect.unit (s := S2x64x2048) ![s.val, 0, o] ![1, 64, 128] inbS).emb (ix3 z q l) = ix3 s q ⟨o + l.val, by omega⟩ := by
    funext a; apply Fin.ext
    match a with
    | ⟨0, _⟩ => show s.val + 1 * z.val = s.val; omega
    | ⟨1, _⟩ => show 0 + 1 * q.val = q.val; omega
    | ⟨2, _⟩ => show o + 1 * l.val = o + l.val; omega
  rw [e]
  refine Eq.trans ?_ (hZ ⟨q.val * 16 + (o + l.val) / 128, by omega⟩ ⟨(o + l.val) % 128, by omega⟩)
  pointwise [k0_pay6]
  refine congrArg Z ?_
  have e1 : p + 16 * q.val = q.val * 16 + (o + l.val) / 128 := by omega
  have e2 : l.val = (o + l.val) % 128 := by omega
  exact congrArg₂ (fun r l => ix3 s r l) (Fin.ext e1) (Fin.ext e2)

/-- The scratch array after its first plane was stored, and after both were. -/
def first (W0 : S1x1024x128.Idx → EReal) : List (View.Piece (Elt Ideal) S2x1024x128 .f32) :=
  [⟨Rect.unit ![0, 0, 0] ![1, 1024, 128] inb_S2x1024x128_S1x1024x128_0_0_0, W0⟩]
def both (W0 W1 : S1x1024x128.Idx → EReal) : List (View.Piece (Elt Ideal) S2x1024x128 .f32) :=
  ⟨Rect.unit ![1, 0, 0] ![1, 1024, 128] inb_S2x1024x128_S1x1024x128_1_0_0, W1⟩ :: first W0

/-- The scratch array's planes, read back. -/
theorem canon_first (W0 : S1x1024x128.Idx → EReal) (r : Fin 1024) (l : Fin 128) : View.canon (first W0) (ix3 0 r l) = W0 (ix3 0 r l) := by
  have e : (ix3 0 r l : S2x1024x128.Idx)
      = (Rect.unit (s := S2x1024x128) ![0, 0, 0] ![1, 1024, 128] inb_S2x1024x128_S1x1024x128_0_0_0).emb (ix3 0 r l) := by
    funext a; apply Fin.ext
    match a with
    | ⟨0, _⟩ => show 0 = 0 + 1 * 0; omega
    | ⟨1, _⟩ => show r.val = 0 + 1 * r.val; omega
    | ⟨2, _⟩ => show l.val = 0 + 1 * l.val; omega
  unfold first
  refine (congrArg _ e).trans ?_
  exact View.canon_cons_emb (Val := Elt Ideal) (e := .f32) (Rect.unit (s := S2x1024x128) ![0, 0, 0] ![1, 1024, 128] inb_S2x1024x128_S1x1024x128_0_0_0) W0 [] (ix3 0 r l)

theorem canon_both (W0 W1 : S1x1024x128.Idx → EReal) (r : Fin 1024) (l : Fin 128) :
    View.canon (both W0 W1) (ix3 1 r l) = W1 (ix3 0 r l) := by
  have e : (ix3 1 r l : S2x1024x128.Idx)
      = (Rect.unit (s := S2x1024x128) ![1, 0, 0] ![1, 1024, 128] inb_S2x1024x128_S1x1024x128_1_0_0).emb (ix3 0 r l) := by
    funext a; apply Fin.ext
    match a with
    | ⟨0, _⟩ => show 1 = 1 + 1 * 0; omega
    | ⟨1, _⟩ => show r.val = 0 + 1 * r.val; omega
    | ⟨2, _⟩ => show l.val = 0 + 1 * l.val; omega
  unfold both
  refine (congrArg _ e).trans ?_
  exact View.canon_cons_emb (Val := Elt Ideal) (e := .f32) (Rect.unit (s := S2x1024x128) ![1, 0, 0] ![1, 1024, 128] inb_S2x1024x128_S1x1024x128_1_0_0) W1 (first W0) (ix3 0 r l)

/-- A load of the first plane, stored: a block of `gather`. -/
theorem low_emb {sig' : RefSig} (v : View sig' .tc .vmem S2x1024x128 .f32) (W0 W1 : S1x1024x128.Idx → EReal) (p o : ℕ) (ho : o = 128 * p) (inbL)
    (inbS : ∀ a, (![0, 0, o] : Fin 3 → Nat) a + (![1, 64, 128] : Fin 3 → Nat) a ≤ S2x64x2048.size a) (x : S1x64x128.Idx) :
    k0_pay6 (F := Ideal) (v.readCov (Val := Elt Ideal) (first W0) ⟨![0, p, 0], ![1, 64, 128], ![1, 16, 1], inbL⟩) x
      = gather W0 W1 ((Rect.unit (s := S2x64x2048) ![0, 0, o] ![1, 64, 128] inbS).emb x) := by
  rw [View.readCov_eq_canon']
  exact gather_emb W0 W1 (View.canon (first W0)) 0 ho (fun r l => (canon_first W0 r l).trans (by rw [if_pos (by rfl)])) inbL inbS x

/-- A load of the second plane, stored: a block of `gather`. -/
theorem high_emb {sig' : RefSig} (v : View sig' .tc .vmem S2x1024x128 .f32) (W0 W1 : S1x1024x128.Idx → EReal) (p o : ℕ) (ho : o = 128 * p) (inbL)
    (inbS : ∀ a, (![1, 0, o] : Fin 3 → Nat) a + (![1, 64, 128] : Fin 3 → Nat) a ≤ S2x64x2048.size a) (x : S1x64x128.Idx) :
    k0_pay6 (F := Ideal) (v.readCov (Val := Elt Ideal) (both W0 W1) ⟨![1, p, 0], ![1, 64, 128], ![1, 16, 1], inbL⟩) x
      = gather W0 W1 ((Rect.unit (s := S2x64x2048) ![1, 0, o] ![1, 64, 128] inbS).emb x) := by
  rw [View.readCov_eq_canon']
  exact gather_emb W0 W1 (View.canon (both W0 W1)) 1 ho (fun r l => (canon_both W0 W1 r l).trans (by rw [if_neg (by decide)])) inbL inbS x

end Cert.ProjbIdeal.Block

end
-- ==== Proof.ProjbBlock.lean ====
/-
  One grid point of the second projection read at an index, over the extended reals: each of the five output blocks from
  the point's rows, the two gains and the weights. The columns to compress pass through a scratch array, whose rows a
  strided load regroups.
-/
module

public import proofs.«01_k».proof.Proof.ProjbMath
public import proofs.«01_k».proof.Proof.ProjbGather
public import proofs.«01_k».proof.Proof.FfnRead
public import proofs.«01_k».proof.Proof.Gen.ProjbIdeal.Frame
public import Idealize.ShloMosaic.Lib.Pipeline.Value
public import Idealize.ShloMosaic.Lib.Pipeline.ReadBack
public import Idealize.ShloMosaic.Lib.Tactic
public import Idealize.ShloMosaic.Lib.Pointwise

@[expose] public section

set_option maxRecDepth 16384

noncomputable section

namespace Cert.ProjbIdeal.Block

open Cert.ProjbIdeal Cert.ProjbIdeal.Gen Idealize.ShloMosaic Idealize.ShloMosaic.TcCoe Idealize.SL.Sem Cert.FfnRead Cert.ProjbMath

theorem hz2 : (![0, 0] : Fin 2 → Nat) = fun _ => 0 := funext fun a => by fin_cases a <;> rfl
theorem hz3 : (![0, 0, 0] : Fin 3 → Nat) = fun _ => 0 := funext fun a => by fin_cases a <;> rfl

/-- The queries' factor, under its name. -/
theorem named_scale : (Named.named (F := Ideal) (φ := .f32) κ "q_scale_log2e" 0x3E38AA3B#32 : EReal) = scale := rfl

section Rows
variable (x0 : Vec Ideal S1024x1024 .f32) (g : Vec Ideal S1x1024 .f32)

/-- Row `r` of the block, normed. -/
def normed (r k : Fin 1024) : EReal := rowNorm (fun k => x0 (ix2 r k)) (fun k => g (ix2 0 k)) k

theorem normed_at (r k : Fin 1024) : k0_pay2 x0 g (ix2 r k) = normed x0 g r k := by
  pointwise [k0_pay2, k0_pay1]
  rfl

theorem normed_at' (r k : Fin 1024) : k0_pay3 x0 g (ix2 r k) = normed x0 g r k := normed_at x0 g r k

/-- The projection to the columns to compress. -/
theorem cols_at (w : Vec Ideal S1024x256 .bf16) (r : Fin 1024) (j : Fin 256) :
    k0_pay4 x0 g w (ix2 r j) = ∑ k, normed x0 g r k * w (ix2 k j) := by
  simp only [← normed_at]
  pointwise [k0_pay4]

/-- The other keys and values. -/
theorem kvs_pay (w : Vec Ideal S1024x512 .bf16) (r : Fin 1024) (j : Fin 512) :
    k0_pay41 (k0_pay2 x0 g) w (ix2 r j) = ∑ k, normed x0 g r k * w (ix2 k j) := by
  simp only [← normed_at]
  pointwise [k0_pay41]

/-- The queries, one column per row. -/
theorem query_pay (w : Vec Ideal S512x1024 .bf16) (j : Fin 512) (r : Fin 1024) :
    k0_pay42 (k0_pay3 x0 g) w (ix3 0 j r) = (∑ k, normed x0 g r k * w (ix2 j k)) * scale := by
  simp only [← normed_at']
  pointwise [k0_pay42]
  rw [named_scale]
  simp only [mul_comm]

/-- The gates, one column per row. -/
theorem gate_pay (w : Vec Ideal S32x1024 .bf16) (j : Fin 32) (r : Fin 1024) :
    k0_pay43 (k0_pay3 x0 g) w (ix3 0 j r) = ProjbMath.sig (∑ k, normed x0 g r k * w (ix2 j k)) := by
  simp only [← normed_at']
  pointwise [k0_pay43]
  rw [zero_sub]
  unfold ProjbMath.sig
  simp only [mul_comm]

/-- The memory attention's queries. -/
theorem mem_query_pay (w : Vec Ideal S1024x512 .bf16) (r : Fin 1024) (j : Fin 512) :
    k0_pay44 (k0_pay3 x0 g) w (ix2 r j) = ∑ k, normed x0 g r k * w (ix2 k j) := kvs_pay x0 g w r j

end Rows

variable (c : Dev nD) (i : grid0.Coords)
  (a2 : Memref sig .tc .vmem S1024x1024 .f32) (h2 : a2.IsWhole) (a3 : Memref sig .tc .vmem S1x1024 .f32) (h3 : a3.IsWhole)
  (a4 : Memref sig .tc .vmem S1x1024 .f32) (h4 : a4.IsWhole) (a5 : Memref sig .tc .vmem S1024x768 .bf16) (h5 : a5.IsWhole)
  (a6 : Memref sig .tc .vmem S512x1024 .bf16) (h6 : a6.IsWhole) (a7 : Memref sig .tc .vmem S32x1024 .bf16) (h7 : a7.IsWhole)
  (a8 : Memref sig .tc .vmem S1024x512 .bf16) (h8 : a8.IsWhole) (a9 : Memref sig .tc .vmem S2x64x2048 .bf16) (h9 : a9.IsWhole)
  (a10 : Memref sig .tc .vmem S1024x512 .bf16) (h10 : a10.IsWhole) (a11 : Memref sig .tc .vmem S1x512x1024 .bf16) (h11 : a11.IsWhole)
  (a12 : Memref sig .tc .vmem S1x32x1024 .f32) (h12 : a12.IsWhole) (a13 : Memref sig .tc .vmem S1024x512 .bf16) (h13 : a13.IsWhole)
  (a14 : Memref sig .tc .vmem S2x1024x128 .f32) (h14 : a14.IsWhole)
  (x0 : Vec Ideal S1024x1024 .f32) (x1 x2 : Vec Ideal S1x1024 .f32) (x3 : Vec Ideal S1024x768 .bf16) (x4 : Vec Ideal S512x1024 .bf16)
  (x5 : Vec Ideal S32x1024 .bf16) (x6 : Vec Ideal S1024x512 .bf16)

/-- The output blocks of the point: the other keys and values, the queries, the gates and the memory queries. -/
theorem kvs_at (r : Fin 1024) (j : Fin 512) :
    out0_A_8 c i a2 h2 a3 h3 a4 h4 a5 h5 a6 h6 a7 h7 a8 h8 a9 h9 a10 h10 a11 h11 a12 h12 a13 h13 a14 h14 x0 x1 x2 x3 x4 x5 x6 (ix2 r j)
      = ∑ k, normed x0 x1 r k * x3 (ix2 k ⟨256 + j.val, by omega⟩) := by
  unfold out0_A_8
  rw [View.read_writes_junk_eq_canon]
  unfold kernelRun0_A
  dsimp only
  sl_unfold_words
  rw [View.canon_unit_zero hz2]
  simp only [View.readAt_eq_ld, h2.read_unread, h3.read_unread, h5.read_unread, View.ld_unit_zero (S := S1024x1024) hz2,
    View.ld_unit_zero (S := S1x1024) hz2]
  refine (kvs_pay x0 x1 _ r j).trans (Finset.sum_congr rfl fun k _ => congrArg _ ?_)
  show x3 _ = x3 _
  congr 1
  funext a; apply Fin.ext
  match a with
  | ⟨0, _⟩ => show 0 + 1 * k.val = k.val; omega
  | ⟨1, _⟩ => show 256 + 1 * j.val = 256 + j.val; omega

theorem query_at (j : Fin 512) (r : Fin 1024) :
    out0_A_9 c i a2 h2 a3 h3 a4 h4 a5 h5 a6 h6 a7 h7 a8 h8 a9 h9 a10 h10 a11 h11 a12 h12 a13 h13 a14 h14 x0 x1 x2 x3 x4 x5 x6 (ix3 0 j r)
      = (∑ k, normed x0 x2 r k * x4 (ix2 j k)) * scale := by
  unfold out0_A_9
  rw [View.read_writes_junk_eq_canon]
  unfold kernelRun0_A
  dsimp only
  sl_unfold_words
  rw [View.canon_unit_zero hz3]
  simp only [View.readAt_eq_ld, h2.read_unread, h4.read_unread, h6.read_unread, View.ld_unit_zero (S := S1024x1024) hz2,
    View.ld_unit_zero (S := S1x1024) hz2, View.ld_unit_zero (S := S512x1024) hz2]
  exact query_pay x0 x2 x4 j r

theorem gate_at (j : Fin 32) (r : Fin 1024) :
    out0_A_10 c i a2 h2 a3 h3 a4 h4 a5 h5 a6 h6 a7 h7 a8 h8 a9 h9 a10 h10 a11 h11 a12 h12 a13 h13 a14 h14 x0 x1 x2 x3 x4 x5 x6 (ix3 0 j r)
      = ProjbMath.sig (∑ k, normed x0 x2 r k * x5 (ix2 j k)) := by
  unfold out0_A_10
  rw [View.read_writes_junk_eq_canon]
  unfold kernelRun0_A
  dsimp only
  sl_unfold_words
  rw [View.canon_unit_zero hz3]
  simp only [View.readAt_eq_ld, h2.read_unread, h4.read_unread, h7.read_unread, View.ld_unit_zero (S := S1024x1024) hz2,
    View.ld_unit_zero (S := S1x1024) hz2, View.ld_unit_zero (S := S32x1024) hz2]
  exact gate_pay x0 x2 x5 j r

theorem mem_query_at (r : Fin 1024) (j : Fin 512) :
    out0_A_11 c i a2 h2 a3 h3 a4 h4 a5 h5 a6 h6 a7 h7 a8 h8 a9 h9 a10 h10 a11 h11 a12 h12 a13 h13 a14 h14 x0 x1 x2 x3 x4 x5 x6 (ix2 r j)
      = ∑ k, normed x0 x2 r k * x6 (ix2 k j) := by
  unfold out0_A_11
  rw [View.read_writes_junk_eq_canon]
  unfold kernelRun0_A
  dsimp only
  sl_unfold_words
  rw [View.canon_unit_zero hz2]
  simp only [View.readAt_eq_ld, h2.read_unread, h4.read_unread, h8.read_unread, View.ld_unit_zero (S := S1024x1024) hz2,
    View.ld_unit_zero (S := S1x1024) hz2, View.ld_unit_zero (S := S1024x512) hz2]
  exact mem_query_pay x0 x2 x6 r j

/-- What the point leaves of the columns to compress. -/
theorem cmp_gather (y : S2x64x2048.Idx) :
    out0_A_7 c i a2 h2 a3 h3 a4 h4 a5 h5 a6 h6 a7 h7 a8 h8 a9 h9 a10 h10 a11 h11 a12 h12 a13 h13 a14 h14 x0 x1 x2 x3 x4 x5 x6 y
      = gather (k0_pay5 x0 x1 (View.ld x3 (Rect.unit (s := S1024x768) ![0, 0] S1024x256.size inb_S1024x768_S1024x256_0_0)))
        (k0_pay23 (k0_pay4 x0 x1 (View.ld x3 (Rect.unit (s := S1024x768) ![0, 0] S1024x256.size inb_S1024x768_S1024x256_0_0)))) y := by
  unfold out0_A_7
  rw [View.read_writes_junk_eq_canon, ← List.append_nil (kernelRun0_A c i a2 h2 a3 h3 a4 h4 a5 h5 a6 h6 a7 h7 a8 h8 a9 h9 a10 h10 a11 h11 a12 h12 a13 h13 a14 h14 x0 x1 x2 x3 x4
      x5 x6).1]
  refine View.canon_append_of_piecesOf _ _ _ ?_ y
    (cover0_A_7 c i a2 h2 a3 h3 a4 h4 a5 h5 a6 h6 a7 h7 a8 h8 a9 h9 a10 h10 a11 h11 a12 h12 a13 h13 a14 h14 x0 x1 x2 x3 x4 x5 x6 y)
  unfold kernelRun0_A
  dsimp only
  sl_unfold_words
  simp only [View.readAt_eq_ld, h2.read_unread, h3.read_unread, h5.read_unread, View.ld_unit_zero (S := S1024x1024) hz2,
    View.ld_unit_zero (S := S1x1024) hz2]
  exact ⟨high_emb _ _ _ 15 1920 rfl (by decide) (by decide), high_emb _ _ _ 14 1792 rfl (by decide) (by decide),
    high_emb _ _ _ 13 1664 rfl (by decide) (by decide), high_emb _ _ _ 12 1536 rfl (by decide) (by decide),
    high_emb _ _ _ 11 1408 rfl (by decide) (by decide), high_emb _ _ _ 10 1280 rfl (by decide) (by decide),
    high_emb _ _ _ 9 1152 rfl (by decide) (by decide), high_emb _ _ _ 8 1024 rfl (by decide) (by decide),
    high_emb _ _ _ 7 896 rfl (by decide) (by decide), high_emb _ _ _ 6 768 rfl (by decide) (by decide),
    high_emb _ _ _ 5 640 rfl (by decide) (by decide), high_emb _ _ _ 4 512 rfl (by decide) (by decide),
    high_emb _ _ _ 3 384 rfl (by decide) (by decide), high_emb _ _ _ 2 256 rfl (by decide) (by decide),
    high_emb _ _ _ 1 128 rfl (by decide) (by decide), high_emb _ _ _ 0 0 rfl (by decide) (by decide),
    low_emb _ _ _ 15 1920 rfl (by decide) (by decide), low_emb _ _ _ 14 1792 rfl (by decide) (by decide),
    low_emb _ _ _ 13 1664 rfl (by decide) (by decide), low_emb _ _ _ 12 1536 rfl (by decide) (by decide),
    low_emb _ _ _ 11 1408 rfl (by decide) (by decide), low_emb _ _ _ 10 1280 rfl (by decide) (by decide),
    low_emb _ _ _ 9 1152 rfl (by decide) (by decide), low_emb _ _ _ 8 1024 rfl (by decide) (by decide),
    low_emb _ _ _ 7 896 rfl (by decide) (by decide), low_emb _ _ _ 6 768 rfl (by decide) (by decide),
    low_emb _ _ _ 5 640 rfl (by decide) (by decide), low_emb _ _ _ 4 512 rfl (by decide) (by decide),
    low_emb _ _ _ 3 384 rfl (by decide) (by decide), low_emb _ _ _ 2 256 rfl (by decide) (by decide),
    low_emb _ _ _ 1 128 rfl (by decide) (by decide), low_emb _ _ _ 0 0 rfl (by decide) (by decide),
    trivial⟩

/-- The planes: the keys' columns and the values'. -/
theorem low_plane_at (w : Vec Ideal S1024x256 .bf16) (r : Fin 1024) (l : Fin 128) :
    k0_pay5 x0 x1 w (ix3 0 r l) = ∑ k, normed x0 x1 r k * w (ix2 k ⟨l.val, by omega⟩) := by
  rw [← cols_at]
  pointwise [k0_pay5]

theorem high_plane_at (w : Vec Ideal S1024x256 .bf16) (r : Fin 1024) (l : Fin 128) :
    k0_pay23 (k0_pay4 x0 x1 w) (ix3 0 r l) = ∑ k, normed x0 x1 r k * w (ix2 k ⟨128 + l.val, by omega⟩) := by
  rw [← cols_at]
  pointwise [k0_pay23]

/-- The first 256 columns of the keys' and values' weights. -/
theorem ld_low (k : Fin 1024) (j : Fin 256) :
    View.ld x3 (Rect.unit (s := S1024x768) ![0, 0] S1024x256.size inb_S1024x768_S1024x256_0_0) (ix2 k j) = x3 (ix2 k ⟨j.val, by omega⟩) := by
  show x3 _ = x3 _
  congr 1
  funext a; apply Fin.ext
  match a with
  | ⟨0, _⟩ => show 0 + 1 * k.val = k.val; omega
  | ⟨1, _⟩ => show 0 + 1 * j.val = j.val; omega

/-- The columns to compress, from the rows and the weights: sixteen rows side by side. -/
theorem cmp_at (s : Fin 2) (q : Fin 64) (j : Fin 2048) :
    out0_A_7 c i a2 h2 a3 h3 a4 h4 a5 h5 a6 h6 a7 h7 a8 h8 a9 h9 a10 h10 a11 h11 a12 h12 a13 h13 a14 h14 x0 x1 x2 x3 x4 x5 x6 (ix3 s q j)
      = ∑ k, normed x0 x1 ⟨q.val * 16 + j.val / 128, by omega⟩ k * x3 (ix2 k ⟨s.val * 128 + j.val % 128, by omega⟩) := by
  rw [cmp_gather]
  unfold gather
  by_cases hs : s.val = 0
  · rw [if_pos (show ((ix3 s q j : S2x64x2048.Idx) 0).val = 0 from hs)]
    refine (low_plane_at x0 x1 _ _ _).trans (Finset.sum_congr rfl fun k _ => congrArg₂ (· * ·) rfl ((ld_low x3 k _).trans ?_))
    exact congrArg (fun l => x3 (ix2 k l)) (Fin.ext (by show j.val % 128 = s.val * 128 + j.val % 128; omega))
  · rw [if_neg (show ((ix3 s q j : S2x64x2048.Idx) 0).val ≠ 0 from hs)]
    refine (high_plane_at x0 x1 _ _ _).trans (Finset.sum_congr rfl fun k _ => congrArg₂ (· * ·) rfl ((ld_low x3 k _).trans ?_))
    exact congrArg (fun l => x3 (ix2 k l)) (Fin.ext (by show 128 + j.val % 128 = s.val * 128 + j.val % 128; omega))

end Cert.ProjbIdeal.Block

end
-- ==== Proof.ProjbValue.lean ====
/-
  What the second projection's output arrays hold: at every index, the reference's projection of the launch arguments.
-/
module

public import proofs.«01_k».proof.Proof.ProjbRead
public import proofs.«01_k».proof.Proof.ProjbBlock
public import proofs.«01_k».proof.Proof.Gen.ProjbIdeal.Value
public import Idealize.ShloMosaic.Lib.StableHlo.ReadAt

@[expose] public section

set_option maxRecDepth 16384

noncomputable section

namespace Cert.ProjbIdeal.Blocks

open Cert.ProjbIdeal Cert.ProjbIdeal.Gen Cert.ProjbIdeal.Block Cert.ProjbIdeal.Value Idealize.ShloMosaic Idealize.ShloMosaic.TcCoe Cert.ProjbMath

variable (m : (ℓ : Loc nD τ sig) → Buf (Elt Ideal) ℓ) (c : Dev nD)

/-- The launch arguments, as arrays. -/
abbrev arg0 : S32768x1024.Idx → EReal := m ((c : Thread nD τ).loc main_arg0)
abbrev arg1 : S1024.Idx → EReal := m ((c : Thread nD τ).loc main_arg1)
abbrev arg2 : S1024.Idx → EReal := m ((c : Thread nD τ).loc main_arg2)
abbrev arg3 : S1024x768.Idx → EReal := m ((c : Thread nD τ).loc main_arg3)
abbrev arg4 : S1024x1048.Idx → EReal := m ((c : Thread nD τ).loc main_arg4)

/-- Where the windows' blocks lie at a point, decided over the grid. -/
theorem index_facts : ∀ t : Fin cfg0.N,
    win0_0.index t (0 : Fin 2) = t.val ∧ win0_0.index t (1 : Fin 2) = 0
    ∧ win0_8.index t (0 : Fin 2) = t.val ∧ win0_8.index t (1 : Fin 2) = 0
    ∧ win0_11.index t (0 : Fin 2) = t.val ∧ win0_11.index t (1 : Fin 2) = 0 :=
  (by decide +kernel : ∀ t : Fin grid0.N, _)

theorem index_facts3 : ∀ t : Fin cfg0.N,
    win0_7.index t (0 : Fin 3) = 0 ∧ win0_7.index t (1 : Fin 3) = t.val ∧ win0_7.index t (2 : Fin 3) = 0
    ∧ win0_9.index t (0 : Fin 3) = t.val / 8 ∧ win0_9.index t (1 : Fin 3) = 0 ∧ win0_9.index t (2 : Fin 3) = t.val % 8
    ∧ win0_10.index t (0 : Fin 3) = t.val / 8 ∧ win0_10.index t (1 : Fin 3) = 0 ∧ win0_10.index t (2 : Fin 3) = t.val % 8 :=
  (by decide +kernel : ∀ t : Fin grid0.N, _)

theorem index_whole : ∀ t : Fin cfg0.N,
    win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

theorem point_lt (t : Fin cfg0.N) : t.val < 32 := lt_of_lt_of_eq t.isLt N_0

/-- The array's row that a point has as row `r` of its block. -/
abbrev rowAt (t : Fin cfg0.N) (r : Fin 1024) : Fin 32768 := ⟨t.val * 1024 + r.val, by have := point_lt t; omega⟩

/-- The rows' block. -/
theorem block0 (t : Fin cfg0.N) (r k : Fin 1024) : iblk (F := Ideal) m c 0 t (ix2 r k) = arg0 m c (ix2 (rowAt t r) k) := by
  obtain ⟨e0, e1, -⟩ := index_facts t
  unfold iblk; rw [View.read_apply]
  show V (F := Ideal) m c main_arg0 _ = _
  rw [V_main_arg0]
  unfold arg0
  congr 1
  funext a; apply Fin.ext
  match a with
  | ⟨0, _⟩ => show win0_0.index t (0 : Fin 2) * 1024 + 1 * r.val = _; rw [e0, one_mul]; rfl
  | ⟨1, _⟩ => show win0_0.index t (1 : Fin 2) * 1024 + 1 * k.val = _; rw [e1, one_mul, zero_mul, zero_add]; rfl

/-! The gains and the weights as the kernel orders them. -/

theorem gain_kv_at (z : Fin 1) (k : Fin 1024) : V (F := Ideal) m c main_v9 (ix2 z k) = arg1 m c (ix1 k) := by
  unfold V arg1
  after_reads_at
  try rfl

theorem gain_mix_at (z : Fin 1) (k : Fin 1024) : V (F := Ideal) m c main_v10 (ix2 z k) = arg2 m c (ix1 k) := by
  unfold V arg2
  after_reads_at
  try rfl

theorem kv_weights_at (k : Fin 1024) (j : Fin 768) : V (F := Ideal) m c main_v11 (ix2 k j) = arg3 m c (ix2 k j) := by
  unfold V arg3
  after_reads_at
  try rfl

theorem query_weights_at (j : Fin 512) (k : Fin 1024) :
    V (F := Ideal) m c main_v2 (ix2 j k) = arg4 m c (ix2 k ⟨j.val, by omega⟩) := by
  unfold V arg4
  after_reads_at
  try rfl

theorem mem_weights_at (k : Fin 1024) (j : Fin 512) :
    V (F := Ideal) m c main_v8 (ix2 k j) = arg4 m c (ix2 k ⟨536 + j.val, by omega⟩) := by
  unfold V arg4
  after_reads_at
  try rfl

/-- The padding's zero. -/
theorem sitofp_zero : (FloatOps.sitofp (F := Ideal) .f32 (0#32 : BitVec 32) : EReal) = 0 := by
  show ((((0#32 : BitVec 32).toInt : ℤ) : ℝ) : EReal) = 0
  simp

/-- The gates' weights, one row per gate, with zero rows below them. -/
theorem gate_weights_at (j : Fin 32) (k : Fin 1024) : V (F := Ideal) m c main_v6 (ix2 j k)
    = if h : j.val < 24 then arg4 m c (ix2 k ⟨512 + j.val, by omega⟩) else 0 := by
  unfold V arg4
  after_reads_at
  by_cases h : j.val < 24
  · rw [dif_pos h, dif_pos h]
  · rw [dif_neg h, dif_neg h]
    exact sitofp_zero

/-! The input windows' blocks, each a whole array. -/

/-- An index of a whole array is the one its single block has: the block index is zero, as `h0` and `h1` say. -/
theorem whole {H W : ℕ} (n : Fin H) (j : Fin W) {i0 i1 : ℕ} {x : (⟨2, ![H, W]⟩ : Shape).Idx} (h0 : i0 = 0) (h1 : i1 = 0)
    (e0 : (x 0).val = i0 * H + 1 * n.val) (e1 : (x 1).val = i1 * W + 1 * j.val) : x = ix2 n j := by
  funext a; apply Fin.ext
  match a with
  | ⟨0, _⟩ => exact e0.trans ((by rw [h0, one_mul, zero_mul, zero_add] : i0 * H + 1 * n.val = n.val))
  | ⟨1, _⟩ => exact e1.trans ((by rw [h1, one_mul, zero_mul, zero_add] : i1 * W + 1 * j.val = j.val))

theorem block1 (t : Fin cfg0.N) (z : Fin 1) (k : Fin 1024) : iblk (F := Ideal) m c 1 t (ix2 z k) = arg1 m c (ix1 k) := by
  obtain ⟨h0, h1, -⟩ := index_whole t
  unfold iblk; rw [View.read_apply]
  exact (congrArg (V (F := Ideal) m c main_v9) (whole z k h0 h1 rfl rfl)).trans (gain_kv_at m c z k)

theorem block2 (t : Fin cfg0.N) (z : Fin 1) (k : Fin 1024) : iblk (F := Ideal) m c 2 t (ix2 z k) = arg2 m c (ix1 k) := by
  obtain ⟨-, -, h0, h1, -⟩ := index_whole t
  unfold iblk; rw [View.read_apply]
  exact (congrArg (V (F := Ideal) m c main_v10) (whole z k h0 h1 rfl rfl)).trans (gain_mix_at m c z k)

theorem block3 (t : Fin cfg0.N) (k : Fin 1024) (j : Fin 768) : iblk (F := Ideal) m c 3 t (ix2 k j) = arg3 m c (ix2 k j) := by
  obtain ⟨-, -, -, -, h0, h1, -⟩ := index_whole t
  unfold iblk; rw [View.read_apply]
  exact (congrArg (V (F := Ideal) m c main_v11) (whole k j h0 h1 rfl rfl)).trans (kv_weights_at m c k j)

theorem block4 (t : Fin cfg0.N) (j : Fin 512) (k : Fin 1024) :
    iblk (F := Ideal) m c 4 t (ix2 j k) = arg4 m c (ix2 k ⟨j.val, by omega⟩) := by
  obtain ⟨-, -, -, -, -, -, h0, h1, -⟩ := index_whole t
  unfold iblk; rw [View.read_apply]
  exact (congrArg (V (F := Ideal) m c main_v2) (whole j k h0 h1 rfl rfl)).trans (query_weights_at m c j k)

theorem block5 (t : Fin cfg0.N) (j : Fin 32) (k : Fin 1024) : iblk (F := Ideal) m c 5 t (ix2 j k)
    = if h : j.val < 24 then arg4 m c (ix2 k ⟨512 + j.val, by omega⟩) else (0 : EReal) := by
  obtain ⟨-, -, -, -, -, -, -, -, h0, h1, -⟩ := index_whole t
  unfold iblk; rw [View.read_apply]
  exact (congrArg (V (F := Ideal) m c main_v6) (whole j k h0 h1 rfl rfl)).trans (gate_weights_at m c j k)

theorem block6 (t : Fin cfg0.N) (k : Fin 1024) (j : Fin 512) :
    iblk (F := Ideal) m c 6 t (ix2 k j) = arg4 m c (ix2 k ⟨536 + j.val, by omega⟩) := by
  obtain ⟨-, -, -, -, -, -, -, -, -, -, h0, h1⟩ := index_whole t
  unfold iblk; rw [View.read_apply]
  exact (congrArg (V (F := Ideal) m c main_v8) (whole k j h0 h1 rfl rfl)).trans (mem_weights_at m c k j)

/-! A point's projections are the reference's of the rows it has. -/

theorem kv_block (t : Fin cfg0.N) (r : Fin 1024) (j : Fin 768) :
    ∑ k, normed (iblk (F := Ideal) m c 0 t) (iblk (F := Ideal) m c 1 t) r k * iblk (F := Ideal) m c 3 t (ix2 k j)
      = ProjbRead.kv (arg0 m c) (arg1 m c) (arg3 m c) (rowAt t r) j := by
  unfold normed ProjbRead.kv
  simp only [block0, block1, block3]

theorem mix_block (t : Fin cfg0.N) (r : Fin 1024) (w : Fin 1024 → EReal) (j : Fin 1048) (h : ∀ k, w k = arg4 m c (ix2 k j)) :
    ∑ k, normed (iblk (F := Ideal) m c 0 t) (iblk (F := Ideal) m c 2 t) r k * w k
      = ProjbRead.mix (arg0 m c) (arg2 m c) (arg4 m c) (rowAt t r) j := by
  unfold normed ProjbRead.mix
  simp only [block0, block2, h]

/-- The gates' projection: nothing where the weights were padded. -/
theorem gate_block (t : Fin cfg0.N) (r : Fin 1024) (j : Fin 32) :
    ∑ k, normed (iblk (F := Ideal) m c 0 t) (iblk (F := Ideal) m c 2 t) r k * iblk (F := Ideal) m c 5 t (ix2 j k)
      = if h : j.val < 24 then ProjbRead.mix (arg0 m c) (arg2 m c) (arg4 m c) (rowAt t r) ⟨512 + j.val, by omega⟩ else 0 := by
  by_cases h : j.val < 24
  · rw [dif_pos h]
    exact mix_block m c t r _ _ fun k => (block5 m c t j k).trans (dif_pos h)
  · rw [dif_neg h]
    exact Finset.sum_eq_zero fun k _ => (congrArg _ ((block5 m c t j k).trans (dif_neg h))).trans (mul_zero _)

/-- The point that writes row `n`, and the row's place in its block. -/
abbrev pt (n : Fin 32768) : Fin cfg0.N := ⟨n.val / 1024, lt_of_lt_of_eq (by omega) N_0.symm⟩
abbrev row (n : Fin 32768) : Fin 1024 := ⟨n.val % 1024, by omega⟩

theorem pt_row (n : Fin 32768) : (pt n).val * 1024 + (row n).val = n.val := by
  show n.val / 1024 * 1024 + n.val % 1024 = n.val
  omega

theorem rowAt_row (n : Fin 32768) : rowAt (pt n) (row n) = n := Fin.ext (pt_row n)

/-- An array's index is the place a window's block has it at: the block index is the point and zero, as `h0` and `h1` say. -/
theorem place {W : ℕ} (n : Fin 32768) (j : Fin W) {i0 i1 : ℕ} {x : (⟨2, ![32768, W]⟩ : Shape).Idx} (h0 : i0 = (pt n).val) (h1 : i1 = 0)
    (e0 : (x 0).val = i0 * 1024 + 1 * (row n).val) (e1 : (x 1).val = i1 * W + 1 * j.val) : ix2 n j = x := by
  funext a; apply Fin.ext
  match a with
  | ⟨0, _⟩ => exact ((e0.trans (by rw [h0, one_mul])).trans (pt_row n)).symm
  | ⟨1, _⟩ => exact (e1.trans ((by rw [h1, one_mul, zero_mul, zero_add] : i1 * W + 1 * j.val = j.val))).symm

/-- The same for an array with one column per row, by batch: the block index is the batch, zero and the point in the batch. -/
theorem place_column {H : ℕ} (b : Fin 4) (j : Fin H) (t : Fin 8192) {i0 i1 i2 : ℕ} {x : (⟨3, ![4, H, 8192]⟩ : Shape).Idx}
    (h0 : i0 = (pt (ProjbRead.rowOf b t)).val / 8) (h1 : i1 = 0) (h2 : i2 = (pt (ProjbRead.rowOf b t)).val % 8)
    (e0 : (x 0).val = i0 * 1 + 1 * 0) (e1 : (x 1).val = i1 * H + 1 * j.val)
    (e2 : (x 2).val = i2 * 1024 + 1 * (row (ProjbRead.rowOf b t)).val) : ix3 b j t = x := by
  have ep : (pt (ProjbRead.rowOf b t)).val = (b.val * 8192 + t.val) / 1024 := rfl
  have er : (row (ProjbRead.rowOf b t)).val = (b.val * 8192 + t.val) % 1024 := rfl
  funext a; apply Fin.ext
  match a with
  | ⟨0, _⟩ => exact (e0.trans (by rw [h0, ep]; omega : i0 * 1 + 1 * 0 = b.val)).symm
  | ⟨1, _⟩ => exact (e1.trans ((by rw [h1, one_mul, zero_mul, zero_add] : i1 * H + 1 * j.val = j.val))).symm
  | ⟨2, _⟩ => exact (e2.trans (by rw [h2, ep, er]; omega : i2 * 1024 + 1 * (row (ProjbRead.rowOf b t)).val = t.val)).symm

/-- The point that writes sixteen rows' line `r` of the columns to compress, and the line's place in its block. -/
abbrev linePt (r : Fin 2048) : Fin cfg0.N := ⟨r.val / 64, lt_of_lt_of_eq (by omega) N_0.symm⟩
abbrev line (r : Fin 2048) : Fin 64 := ⟨r.val % 64, by omega⟩

theorem place_line (s : Fin 2) (r j : Fin 2048) {i0 i1 i2 : ℕ} {x : (⟨3, ![2, 2048, 2048]⟩ : Shape).Idx}
    (h0 : i0 = 0) (h1 : i1 = (linePt r).val) (h2 : i2 = 0)
    (e0 : (x 0).val = i0 * 2 + 1 * s.val) (e1 : (x 1).val = i1 * 64 + 1 * (line r).val)
    (e2 : (x 2).val = i2 * 2048 + 1 * j.val) : ix3 s r j = x := by
  funext a; apply Fin.ext
  match a with
  | ⟨0, _⟩ => exact (e0.trans (by rw [h0]; omega : i0 * 2 + 1 * s.val = s.val)).symm
  | ⟨1, _⟩ => exact (e1.trans (by rw [h1]; show r.val / 64 * 64 + 1 * (r.val % 64) = r.val; omega)).symm
  | ⟨2, _⟩ => exact (e2.trans (by rw [h2]; omega : i2 * 2048 + 1 * j.val = j.val)).symm

/-! The output arrays at an index, in the reference's terms. -/

theorem cmp_array (s : Fin 2) (r j : Fin 2048) : (dats (F := Ideal) m 0 c).arrAt 7 cfg0.N (ix3 s r j)
    = ProjbRead.kv (arg0 m c) (arg1 m c) (arg3 m c) ⟨r.val * 16 + j.val / 128, by omega⟩ ⟨s.val * 128 + j.val % 128, by omega⟩ := by
  obtain ⟨h0, h1, h2, -⟩ := index_facts3 (linePt r)
  have e := congrFun (blocks7 (F := Ideal) m c (linePt r) (flush0_7 (linePt r))) (ix3 s (line r) j : S2x64x2048.Idx)
  rw [View.read_apply, flushed7_A] at e
  refine (congrArg _ (place_line s r j h0 h1 h2 rfl rfl rfl)).trans (e.trans (
    (cmp_at _ _ _ _ _ _ _ _ _ _ _ _ _ _ _ _ _ _ _ _ _ _ _ _ _ _ _ _ _ _ _ _ _ _ _ s (line r) j).trans ?_))
  rw [kv_block]
  exact congrArg (fun n => ProjbRead.kv (arg0 m c) (arg1 m c) (arg3 m c) n _)
    (Fin.ext (by show r.val / 64 * 1024 + (r.val % 64 * 16 + j.val / 128) = r.val * 16 + j.val / 128; omega))

theorem kvs_array (n : Fin 32768) (j : Fin 512) : (dats (F := Ideal) m 0 c).arrAt 8 cfg0.N (ix2 n j)
    = ProjbRead.kv (arg0 m c) (arg1 m c) (arg3 m c) n ⟨256 + j.val, by omega⟩ := by
  obtain ⟨-, -, h0, h1, -⟩ := index_facts (pt n)
  have e := congrFun (blocks8 (F := Ideal) m c (pt n) (flush0_8 (pt n))) (ix2 (row n) j : S1024x512.Idx)
  rw [View.read_apply, flushed8_A] at e
  refine (congrArg _ (place n j h0 h1 rfl rfl)).trans (e.trans (
    (kvs_at _ _ _ _ _ _ _ _ _ _ _ _ _ _ _ _ _ _ _ _ _ _ _ _ _ _ _ _ _ _ _ _ _ _ _ (row n) j).trans ?_))
  rw [kv_block, rowAt_row]

theorem query_array (b : Fin 4) (j : Fin 512) (t : Fin 8192) : (dats (F := Ideal) m 0 c).arrAt 9 cfg0.N (ix3 b j t)
    = ProjbRead.mix (arg0 m c) (arg2 m c) (arg4 m c) (ProjbRead.rowOf b t) ⟨j.val, by omega⟩ * scale := by
  obtain ⟨-, -, -, h0, h1, h2, -⟩ := index_facts3 (pt (ProjbRead.rowOf b t))
  have e := congrFun (blocks9 (F := Ideal) m c (pt (ProjbRead.rowOf b t)) (flush0_9 (pt (ProjbRead.rowOf b t))))
    (ix3 0 j (row (ProjbRead.rowOf b t)) : S1x512x1024.Idx)
  rw [View.read_apply, flushed9_A] at e
  refine (congrArg _ (place_column b j t h0 h1 h2 rfl rfl rfl)).trans (e.trans (
    (query_at _ _ _ _ _ _ _ _ _ _ _ _ _ _ _ _ _ _ _ _ _ _ _ _ _ _ _ _ _ _ _ _ _ _ _ j (row _)).trans ?_))
  rw [mix_block m c _ _ _ ⟨j.val, by omega⟩ fun k => block4 m c _ j k, rowAt_row]

theorem gate_array (b : Fin 4) (j : Fin 32) (t : Fin 8192) : (dats (F := Ideal) m 0 c).arrAt 10 cfg0.N (ix3 b j t)
    = ProjbMath.sig (if h : j.val < 24 then ProjbRead.mix (arg0 m c) (arg2 m c) (arg4 m c) (ProjbRead.rowOf b t) ⟨512 + j.val, by omega⟩ else 0) := by
  obtain ⟨-, -, -, -, -, -, h0, h1, h2⟩ := index_facts3 (pt (ProjbRead.rowOf b t))
  have e := congrFun (blocks10 (F := Ideal) m c (pt (ProjbRead.rowOf b t)) (flush0_10 (pt (ProjbRead.rowOf b t))))
    (ix3 0 j (row (ProjbRead.rowOf b t)) : S1x32x1024.Idx)
  rw [View.read_apply, flushed10_A] at e
  refine (congrArg _ (place_column b j t h0 h1 h2 rfl rfl rfl)).trans (e.trans (
    (gate_at _ _ _ _ _ _ _ _ _ _ _ _ _ _ _ _ _ _ _ _ _ _ _ _ _ _ _ _ _ _ _ _ _ _ _ j (row _)).trans ?_))
  rw [gate_block, rowAt_row]

theorem mem_query_array (n : Fin 32768) (j : Fin 512) : (dats (F := Ideal) m 0 c).arrAt 11 cfg0.N (ix2 n j)
    = ProjbRead.mix (arg0 m c) (arg2 m c) (arg4 m c) n ⟨536 + j.val, by omega⟩ := by
  obtain ⟨-, -, -, -, h0, h1⟩ := index_facts (pt n)
  have e := congrFun (blocks11 (F := Ideal) m c (pt n) (flush0_11 (pt n))) (ix2 (row n) j : S1024x512.Idx)
  rw [View.read_apply, flushed11_A] at e
  refine (congrArg _ (place n j h0 h1 rfl rfl)).trans (e.trans (
    (mem_query_at _ _ _ _ _ _ _ _ _ _ _ _ _ _ _ _ _ _ _ _ _ _ _ _ _ _ _ _ _ _ _ _ _ _ _ (row n) j).trans ?_))
  rw [mix_block m c _ _ _ ⟨536 + j.val, by omega⟩ fun k => block6 m c _ k j, rowAt_row]

end Cert.ProjbIdeal.Blocks

end
-- ==== Proof.ProjbClaims.lean ====
/-
  The second projection's value claims: the queries' factor stands for its real number, and the kernel's five results are
  the reference's.
-/
module

public import proofs.«01_k».proof.Defs
public import proofs.«01_k».proof.Proof.ProjbValue
public import proofs.«01_k».proof.Proof.Gen.Projb.Frame
public import proofs.«01_k».proof.Proof.Gen.ProjbRefIdeal.Run

@[expose] public section

noncomputable section

namespace Cert.Proof

open Idealize.ShloMosaic Idealize.ShloMosaic.TcCoe Idealize.SL.Sem

/-- From memories that agree on the arguments, each of the reference's results is the kernel's array. -/
theorem projb_eq (m : (ℓ : Loc Cert.ProjbIdeal.nD Cert.ProjbIdeal.τ Cert.ProjbIdeal.sig) → Buf (Elt Ideal) ℓ) (c : Dev Cert.ProjbIdeal.nD)
    (x0 : Cert.ProjbIdeal.S32768x1024.Idx → EReal) (x1 x2 : Cert.ProjbIdeal.S1024.Idx → EReal)
    (x3 : Cert.ProjbIdeal.S1024x768.Idx → EReal) (x4 : Cert.ProjbIdeal.S1024x1048.Idx → EReal)
    (h0 : x0 = Cert.ProjbIdeal.Blocks.arg0 m c) (h1 : x1 = Cert.ProjbIdeal.Blocks.arg1 m c) (h2 : x2 = Cert.ProjbIdeal.Blocks.arg2 m c)
    (h3 : x3 = Cert.ProjbIdeal.Blocks.arg3 m c) (h4 : x4 = Cert.ProjbIdeal.Blocks.arg4 m c) :
    Cert.ProjbRefIdeal.Read.val_main_v48 (F := Ideal) x0 x1 x3 = (Cert.ProjbIdeal.Gen.dats (F := Ideal) m 0 c).arrAt 7 Cert.ProjbIdeal.cfg0.N
    ∧ Cert.ProjbRefIdeal.Read.val_main_v50 (F := Ideal) x0 x1 x3 = (Cert.ProjbIdeal.Gen.dats (F := Ideal) m 0 c).arrAt 8 Cert.ProjbIdeal.cfg0.N
    ∧ Cert.ProjbRefIdeal.Read.val_main_v53 (F := Ideal) x0 x2 x4 = (Cert.ProjbIdeal.Gen.dats (F := Ideal) m 0 c).arrAt 9 Cert.ProjbIdeal.cfg0.N
    ∧ Cert.ProjbRefIdeal.Read.val_main_v55 (F := Ideal) x0 x2 x4 = (Cert.ProjbIdeal.Gen.dats (F := Ideal) m 0 c).arrAt 10 Cert.ProjbIdeal.cfg0.N
    ∧ Cert.ProjbRefIdeal.Read.val_main_v56 (F := Ideal) x0 x2 x4
      = (Cert.ProjbIdeal.Gen.dats (F := Ideal) m 0 c).arrAt 11 Cert.ProjbIdeal.cfg0.N := by
  subst h0 h1 h2 h3 h4
  refine ⟨funext fun i => ?_, funext fun i => ?_, funext fun i => ?_, funext fun i => ?_, funext fun i => ?_⟩
  · obtain ⟨s, r, j, rfl⟩ : ∃ (s : Fin 2) (r j : Fin 2048), i = ix3 s r j := ⟨i 0, i 1, i 2, eq_ix3 i⟩
    exact (Cert.ProjbRead.cmp_at _ _ _ s r j).trans (Cert.ProjbIdeal.Blocks.cmp_array m c s r j).symm
  · obtain ⟨n, j, rfl⟩ : ∃ (n : Fin 32768) (j : Fin 512), i = ix2 n j := ⟨i 0, i 1, eq_ix2 i⟩
    exact (Cert.ProjbRead.kvs_at _ _ _ n j).trans (Cert.ProjbIdeal.Blocks.kvs_array m c n j).symm
  · obtain ⟨b, j, t, rfl⟩ : ∃ (b : Fin 4) (j : Fin 512) (t : Fin 8192), i = ix3 b j t := ⟨i 0, i 1, i 2, eq_ix3 i⟩
    exact (Cert.ProjbRead.query_at _ _ _ b j t).trans (Cert.ProjbIdeal.Blocks.query_array m c b j t).symm
  · obtain ⟨b, j, t, rfl⟩ : ∃ (b : Fin 4) (j : Fin 32) (t : Fin 8192), i = ix3 b j t := ⟨i 0, i 1, i 2, eq_ix3 i⟩
    exact (Cert.ProjbRead.gate_at _ _ _ b j t).trans (Cert.ProjbIdeal.Blocks.gate_array m c b j t).symm
  · obtain ⟨n, j, rfl⟩ : ∃ (n : Fin 32768) (j : Fin 512), i = ix2 n j := ⟨i 0, i 1, eq_ix2 i⟩
    exact (Cert.ProjbRead.mem_query_at _ _ _ n j).trans (Cert.ProjbIdeal.Blocks.mem_query_array m c n j).symm

/-- The second projection's constant: the factor named in the kernel is its bit pattern's real number. -/
theorem preserves_projb : Cert.preserves_Projb_ProjbIdeal :=
  IdealRules.named_const.statement Cert.ProjbIdeal.κ "q_scale_log2e" .f32 0x3E38AA3B#32 (((Real.log 2)⁻¹ * (Real.sqrt 64)⁻¹ : ℝ) : EReal) rfl

/-- The second projection computes the reference's five arrays over the extended reals. -/
theorem algebraic_projb : @Cert.algebraic_ProjbIdeal_ProjbRefIdeal Cert.ProjbIdeal.Gen.facts Cert.ProjbRefIdeal.Gen.facts :=
  fun m ρ m' ρ' _ hag => ⟨fun c => (Cert.ProjbIdeal.Gen.dats (F := Ideal) m 0 c).arrAt 7 Cert.ProjbIdeal.cfg0.N,
    fun c => (Cert.ProjbIdeal.Gen.dats (F := Ideal) m 0 c).arrAt 8 Cert.ProjbIdeal.cfg0.N,
    fun c => (Cert.ProjbIdeal.Gen.dats (F := Ideal) m 0 c).arrAt 9 Cert.ProjbIdeal.cfg0.N,
    fun c => (Cert.ProjbIdeal.Gen.dats (F := Ideal) m 0 c).arrAt 10 Cert.ProjbIdeal.cfg0.N,
    fun c => (Cert.ProjbIdeal.Gen.dats (F := Ideal) m 0 c).arrAt 11 Cert.ProjbIdeal.cfg0.N,
    Cert.ProjbIdeal.Value.run_blocks m ρ,
    (θ_run _ _ _).mono (fun _ h c => by
      obtain ⟨e0, e1, e2, e3, e4⟩ := projb_eq m c _ _ _ _ _ (hag c).1 (hag c).2.1 (hag c).2.2.1 (hag c).2.2.2.1 (hag c).2.2.2.2
      obtain ⟨g0, g1, g2, g3, g4, hargs⟩ := h c
      exact ⟨g0.trans ((Cert.ProjbRefIdeal.Read.val_main_v48_eq _ _ _).trans e0), g1.trans ((Cert.ProjbRefIdeal.Read.val_main_v50_eq _ _ _).trans e1),
        g2.trans ((Cert.ProjbRefIdeal.Read.val_main_v53_eq _ _ _).trans e2), g3.trans ((Cert.ProjbRefIdeal.Read.val_main_v55_eq _ _ _).trans e3),
        g4.trans ((Cert.ProjbRefIdeal.Read.val_main_v56_eq _ _ _).trans e4),
        hargs⟩) (Cert.ProjbRefIdeal.Value.run m' ρ')⟩

/-- The kernel, as written and idealized, leaves its arguments and every semaphore as it found them. -/
theorem frame_projb : @Cert.quiescent_Projb Cert.Projb.Gen.facts := fun m ρ _ => Cert.Projb.Gen.frame m ρ
theorem frame_projb_ideal : @Cert.quiescent_ProjbIdeal Cert.ProjbIdeal.Gen.facts := fun m ρ _ => Cert.ProjbIdeal.Gen.frame m ρ

/-- The reference leaves its arguments as it found them; it has no semaphores. -/
theorem frame_projb_ref : @Cert.quiescent_ProjbRefIdeal Cert.ProjbRefIdeal.Gen.facts := fun m ρ _ =>
  (θ_run Cert.ProjbRefIdeal.defs _ _).mono (fun r h => ⟨fun c => (h c).2.2.2.2.2, Idealize.ShloMosaic.sem_eq_zero_of_no_sems (by decide) r.2⟩)
    (Cert.ProjbRefIdeal.Value.run (F := Ideal) m ρ)

end Cert.Proof

end
-- ==== Proof.lean ====
/-
  The claims, put together: for each program its facts, its frames, and its value claims.
-/
module

public import proofs.«01_k».proof.Defs
public import proofs.«01_k».proof.Proof.AttnClaims
public import proofs.«01_k».proof.Proof.FfnClaims
public import proofs.«01_k».proof.Proof.MidClaims
public import proofs.«01_k».proof.Proof.InpClaims
public import proofs.«01_k».proof.Proof.ProjbClaims

@[expose] public section

noncomputable section

namespace Cert.Proof

/-- Every claim of the certificate. -/
theorem claim : Cert.Claim := ⟨Cert.Attn.Gen.facts, Cert.AttnIdeal.Gen.facts, Cert.AttnRefIdeal.Gen.facts,
  Cert.Ffn.Gen.facts, Cert.FfnIdeal.Gen.facts, Cert.FfnRefIdeal.Gen.facts,
  Cert.Mid.Gen.facts, Cert.MidIdeal.Gen.facts, Cert.MidRefIdeal.Gen.facts,
  Cert.Inp.Gen.facts, Cert.InpIdeal.Gen.facts, Cert.InpRefIdeal.Gen.facts,
  Cert.Projb.Gen.facts, Cert.ProjbIdeal.Gen.facts, Cert.ProjbRefIdeal.Gen.facts,
  frame_attn, frame_attn_ideal, frame_attn_ref, frame_ffn, frame_ffn_ideal, frame_ffn_ref,
  frame_mid, frame_mid_ideal, frame_mid_ref, frame_inp, frame_inp_ideal, frame_inp_ref,
  frame_projb, frame_projb_ideal, frame_projb_ref,
  preserves_attn, algebraic_attn, preserves_ffn, algebraic_ffn, preserves_mid, algebraic_mid, preserves_inp, algebraic_inp,
  preserves_projb, algebraic_projb⟩

end Cert.Proof

end
